-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x64x128x128 : Shape := ⟨4, ![32, 64, 128, 128]⟩
abbrev S2048x64x256 : Shape := ⟨3, ![2048, 64, 256]⟩
abbrev S2048x64x64 : Shape := ⟨3, ![2048, 64, 64]⟩
abbrev S8x64x128 : Shape := ⟨3, ![8, 64, 128]⟩
abbrev S8x64x64 : Shape := ⟨3, ![8, 64, 64]⟩
abbrev S128x64 : Shape := ⟨2, ![128, 64]⟩
abbrev S512x128 : Shape := ⟨2, ![512, 128]⟩
abbrev S512x64 : Shape := ⟨2, ![512, 64]⟩
abbrev S32x64x64x64 : Shape := ⟨4, ![32, 64, 64, 64]⟩

abbrev nBuf : Space → Nat
  | .hbm => 4
  | .vmem => 6
  | .smem => 0
  | _ => 0

abbrev bufTy : (tb : Table) → Fin (tcTables nBuf tb) → BufTy
  | .hbm, ⟨0, _⟩ => ⟨S32x64x128x128, .f32⟩
  | .hbm, ⟨1, _⟩ => ⟨S2048x64x256, .f32⟩
  | .hbm, ⟨2, _⟩ => ⟨S2048x64x64, .f32⟩
  | .hbm, ⟨3, _⟩ => ⟨S32x64x64x64, .f32⟩
  | .local _ .vmem, ⟨0, _⟩ => ⟨S8x64x128, .f32⟩
  | .local _ .vmem, ⟨1, _⟩ => ⟨S8x64x128, .f32⟩
  | .local _ .vmem, ⟨2, _⟩ => ⟨S8x64x128, .f32⟩
  | .local _ .vmem, ⟨3, _⟩ => ⟨S8x64x128, .f32⟩
  | .local _ .vmem, ⟨4, _⟩ => ⟨S8x64x64, .f32⟩
  | .local _ .vmem, ⟨5, _⟩ => ⟨S8x64x64, .f32⟩
  | _, _ => ⟨S32x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32x64x128x128 : Shape := ⟨4, ![32, 64, 128, 128]⟩
abbrev S32x64x64x2x64x2 : Shape := ⟨6, ![32, 64, 64, 2, 64, 2]⟩
abbrev S32x64x64x64x2x2 : Shape := ⟨6, ![32, 64, 64, 64, 2, 2]⟩
abbrev S32x64x64x64x4 : Shape := ⟨5, ![32, 64, 64, 64, 4]⟩
abbrev S_ : Shape := ⟨0, ![]⟩
abbrev S1x32x64x64x64x4 : Shape := ⟨6, ![1, 32, 64, 64, 64, 4]⟩
abbrev S3x32x64x64x64x4 : Shape := ⟨6, ![3, 32, 64, 64, 64, 4]⟩
abbrev S3x32x64x64x64 : Shape := ⟨5, ![3, 32, 64, 64, 64]⟩
abbrev S32x64x64x64 : Shape := ⟨4, ![32, 64, 64, 64]⟩
abbrev S1x32x64x64x64x1 : Shape := ⟨6, ![1, 32, 64, 64, 64, 1]⟩
abbrev S1 : Shape := ⟨1, ![1]⟩
abbrev S1x1x1x1x1x1 : Shape := ⟨6, ![1, 1, 1, 1, 1, 1]⟩
abbrev S1x32x64x64x64 : Shape := ⟨5, ![1, 32, 64, 64, 64]⟩

abbrev nBuf : Space → Nat
  | .hbm => 103
  | .vmem => 0
  | .smem => 0
  | _ => 0

abbrev bufTy : (tb : Table) → Fin (tcTables nBuf tb) → BufTy
  | .hbm, ⟨0, _⟩ => ⟨S32x64x128x128, .f32⟩
  | .hbm, ⟨1, _⟩ => ⟨S32x64x64x2x64x2, .f32⟩
  | .hbm, ⟨2, _⟩ => ⟨S32x64x64x64x2x2, .f32⟩
  | .hbm, ⟨3, _⟩ => ⟨S32x64x64x64x4, .f32⟩
  | .hbm, ⟨4, _⟩ => ⟨S_, .f32⟩
  | .hbm, ⟨5, _⟩ => ⟨S32x64x64x64x4, .f32⟩
  | .hbm, ⟨6, _⟩ => ⟨S32x64x64x64x4, .f32⟩
  | .hbm, ⟨7, _⟩ => ⟨S32x64x64x64x4, .f32⟩
  | .hbm, ⟨8, _⟩ => ⟨S_, .f32⟩
  | .hbm, ⟨9, _⟩ => ⟨S32x64x64x64x4, .f32⟩
  | .hbm, ⟨10, _⟩ => ⟨S32x64x64x64x4, .f32⟩
  | .hbm, ⟨11, _⟩ => ⟨S_, .f32⟩
  | .hbm, ⟨12, _⟩ => ⟨S32x64x64x64x4, .f32⟩
  | .hbm, ⟨13, _⟩ => ⟨S32x64x64x64x4, .f32⟩
  | .hbm, ⟨14, _⟩ => ⟨S_, .f32⟩
  | .hbm, ⟨15, _⟩ => ⟨S_, .f32⟩
  | .hbm, ⟨16, _⟩ => ⟨S32x64x64x64x4, .f32⟩
  | .hbm, ⟨17, _⟩ => ⟨S32x64x64x64x4, .f32⟩
  | .hbm, ⟨18, _⟩ => ⟨S_, .f32⟩
  | .hbm, ⟨19, _⟩ => ⟨S32x64x64x64x4, .f32⟩
  | .hbm, ⟨20, _⟩ => ⟨S32x64x64x64x4, .f32⟩
  | .hbm, ⟨21, _⟩ => ⟨S32x64x64x64x4, .f32⟩
  | .hbm, ⟨22, _⟩ => ⟨S_, .f32⟩
  | .hbm, ⟨23, _⟩ => ⟨S32x64x64x64x4, .f32⟩
  | .hbm, ⟨24, _⟩ => ⟨S32x64x64x64x4, .f32⟩
  | .hbm, ⟨25, _⟩ => ⟨S_, .f32⟩
  | .hbm, ⟨26, _⟩ => ⟨S32x64x64x64x4, .f32⟩
  | .hbm, ⟨27, _⟩ => ⟨S32x64x64x64x4, .f32⟩
  | .hbm, ⟨28, _⟩ => ⟨S_, .f32⟩
  | .hbm, ⟨29, _⟩ => ⟨S_, .f32⟩
  | .hbm, ⟨30, _⟩ => ⟨S32x64x64x64x4, .f32⟩
  | .hbm, ⟨31, _⟩ => ⟨S32x64x64x64x4, .f32⟩
  | .hbm, ⟨32, _⟩ => ⟨S_, .f32⟩
  | .hbm, ⟨33, _⟩ => ⟨S32x64x64x64x4, .f32⟩
  | .hbm, ⟨34, _⟩ => ⟨S32x64x64x64x4, .f32⟩
  | .hbm, ⟨35, _⟩ => ⟨S32x64x64x64x4, .f32⟩
  | .hbm, ⟨36, _⟩ => ⟨S_, .f32⟩
  | .hbm, ⟨37, _⟩ => ⟨S32x64x64x64x4, .f32⟩
  | .hbm, ⟨38, _⟩ => ⟨S32x64x64x64x4, .f32⟩
  | .hbm, ⟨39, _⟩ => ⟨S_, .f32⟩
  | .hbm, ⟨40, _⟩ => ⟨S32x64x64x64x4, .f32⟩
  | .hbm, ⟨41, _⟩ => ⟨S32x64x64x64x4, .f32⟩
  | .hbm, ⟨42, _⟩ => ⟨S_, .f32⟩
  | .hbm, ⟨43, _⟩ => ⟨S_, .f32⟩
  | .hbm, ⟨44, _⟩ => ⟨S32x64x64x64x4, .f32⟩
  | .hbm, ⟨45, _⟩ => ⟨S32x64x64x64x4, .f32⟩
  | .hbm, ⟨46, _⟩ => ⟨S1x32x64x64x64x4, .f32⟩
  | .hbm, ⟨47, _⟩ => ⟨S1x32x64x64x64x4, .f32⟩
  | .hbm, ⟨48, _⟩ => ⟨S1x32x64x64x64x4, .f32⟩
  | .hbm, ⟨49, _⟩ => ⟨S3x32x64x64x64x4, .f32⟩
  | .hbm, ⟨50, _⟩ => ⟨S_, .f32⟩
  | .hbm, ⟨51, _⟩ => ⟨S3x32x64x64x64, .f32⟩
  | .hbm, ⟨52, _⟩ => ⟨S3x32x64x64x64, .i32⟩
  | .hbm, ⟨53, _⟩ => ⟨S_, .f32⟩
  | .hbm, ⟨54, _⟩ => ⟨S_, .i32⟩
  | .hbm, ⟨55, _⟩ => ⟨S32x64x64x64, .f32⟩
  | .hbm, ⟨56, _⟩ => ⟨S32x64x64x64, .i32⟩
  | .hbm, ⟨57, _⟩ => ⟨S1x32x64x64x64x1, .i32⟩
  | .hbm, ⟨58, _⟩ => ⟨S_, .i32⟩
  | .hbm, ⟨59, _⟩ => ⟨S1x32x64x64x64x1, .i32⟩
  | .hbm, ⟨60, _⟩ => ⟨S1x32x64x64x64x1, .i1⟩
  | .hbm, ⟨61, _⟩ => ⟨S_, .i32⟩
  | .hbm, ⟨62, _⟩ => ⟨S1x32x64x64x64x1, .i32⟩
  | .hbm, ⟨63, _⟩ => ⟨S1x32x64x64x64x1, .i32⟩
  | .hbm, ⟨64, _⟩ => ⟨S1x32x64x64x64x1, .i32⟩
  | .hbm, ⟨65, _⟩ => ⟨S1, .i32⟩
  | .hbm, ⟨66, _⟩ => ⟨S_, .i32⟩
  | .hbm, ⟨67, _⟩ => ⟨S1x32x64x64x64x1, .i32⟩
  | .hbm, ⟨68, _⟩ => ⟨S1x32x64x64x64x1, .i1⟩
  | .hbm, ⟨69, _⟩ => ⟨S1x1x1x1x1x1, .i32⟩
  | .hbm, ⟨70, _⟩ => ⟨S1x32x64x64x64x1, .i32⟩
  | .hbm, ⟨71, _⟩ => ⟨S1x32x64x64x64x1, .i1⟩
  | .hbm, ⟨72, _⟩ => ⟨S1x32x64x64x64x1, .i1⟩
  | .hbm, ⟨73, _⟩ => ⟨S_, .i1⟩
  | .hbm, ⟨74, _⟩ => ⟨S1x32x64x64x64, .i1⟩
  | .hbm, ⟨75, _⟩ => ⟨S1x32x64x64x64x4, .f32⟩
  | .hbm, ⟨76, _⟩ => ⟨S1x32x64x64x64x4, .i1⟩
  | .hbm, ⟨77, _⟩ => ⟨S_, .f32⟩
  | .hbm, ⟨78, _⟩ => ⟨S1x32x64x64x64x4, .f32⟩
  | .hbm, ⟨79, _⟩ => ⟨S1x32x64x64x64x4, .f32⟩
  | .hbm, ⟨80, _⟩ => ⟨S32x64x64x64x4, .f32⟩
  | .hbm, ⟨81, _⟩ => ⟨S32x64x64x64x4, .f32⟩
  | .hbm, ⟨82, _⟩ => ⟨S32x64x64x64x4, .f32⟩
  | .hbm, ⟨83, _⟩ => ⟨S_, .f32⟩
  | .hbm, ⟨84, _⟩ => ⟨S32x64x64x64, .f32⟩
  | .hbm, ⟨85, _⟩ => ⟨S32x64x64x64x4, .f32⟩
  | .hbm, ⟨86, _⟩ => ⟨S_, .f32⟩
  | .hbm, ⟨87, _⟩ => ⟨S32x64x64x64, .f32⟩
  | .hbm, ⟨88, _⟩ => ⟨S_, .f32⟩
  | .hbm, ⟨89, _⟩ => ⟨S32x64x64x64, .f32⟩
  | .hbm, ⟨90, _⟩ => ⟨S32x64x64x64, .i1⟩
  | .hbm, ⟨91, _⟩ => ⟨S_, .f32⟩
  | .hbm, ⟨92, _⟩ => ⟨S_, .f32⟩
  | .hbm, ⟨93, _⟩ => ⟨S32x64x64x64, .f32⟩
  | .hbm, ⟨94, _⟩ => ⟨S32x64x64x64, .f32⟩
  | .hbm, ⟨95, _⟩ => ⟨S_, .f32⟩
  | .hbm, ⟨96, _⟩ => ⟨S32x64x64x64, .f32⟩
  | .hbm, ⟨97, _⟩ => ⟨S32x64x64x64, .i1⟩
  | .hbm, ⟨98, _⟩ => ⟨S32x64x64x64, .f32⟩
  | .hbm, ⟨99, _⟩ => ⟨S_, .f32⟩
  | .hbm, ⟨100, _⟩ => ⟨S_, .f32⟩
  | .hbm, ⟨101, _⟩ => ⟨S32x64x64x64, .f32⟩
  | .hbm, ⟨102, _⟩ => ⟨S32x64x64x64, .f32⟩
  | _, _ => ⟨S32x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_call1_v0 : Ref sig .tc := ⟨.hbm, 29, rfl⟩
abbrev main_call1_v1 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_8 : Ref sig .tc := ⟨.hbm, 36, rfl⟩
abbrev main_v22 : Ref sig .tc := ⟨.hbm, 37, rfl⟩
abbrev main_v23 : Ref sig .tc := ⟨.hbm, 38, rfl⟩
abbrev main_cst_9 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_call2_v0 : Ref sig .tc := ⟨.hbm, 43, rfl⟩
abbrev main_call2_v1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_call3_v0 : Ref sig .tc := ⟨.hbm, 52, rfl⟩
abbrev main_call3_cst : Ref sig .tc := ⟨.hbm, 53, rfl⟩
abbrev main_call3_c : Ref sig .tc := ⟨.hbm, 54, rfl⟩
abbrev main_call3_v1_0 : Ref sig .tc := ⟨.hbm, 55, rfl⟩
abbrev main_v32 : Ref sig .tc := ⟨.hbm, 56, rfl⟩
abbrev main_v33 : Ref sig .tc := ⟨.hbm, 57, rfl⟩
abbrev main_call4_c : Ref sig .tc := ⟨.hbm, 58, rfl⟩
abbrev main_call4_v0 : Ref sig .tc := ⟨.hbm, 59, rfl⟩
abbrev main_call4_v1 : Ref sig .tc := ⟨.hbm, 60, rfl⟩
abbrev main_call4_c_0 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_c_1 : Ref sig .tc := ⟨.hbm, 65, rfl⟩
abbrev main_call4_c_2 : Ref sig .tc := ⟨.hbm, 66, rfl⟩
abbrev main_call4_v5 : Ref sig .tc := ⟨.hbm, 67, rfl⟩
abbrev main_call4_v6 : Ref sig .tc := ⟨.hbm, 68, rfl⟩
abbrev main_call4_v7 : Ref sig .tc := ⟨.hbm, 69, rfl⟩
abbrev main_call4_v8 : Ref sig .tc := ⟨.hbm, 70, rfl⟩
abbrev main_call4_v9 : Ref sig .tc := ⟨.hbm, 71, rfl⟩
abbrev main_call4_v10 : Ref sig .tc := ⟨.hbm, 72, rfl⟩
abbrev main_call4_c_3 : Ref sig .tc := ⟨.hbm, 73, rfl⟩
abbrev main_call4_v11 : Ref sig .tc := ⟨.hbm, 74, rfl⟩
abbrev main_call4_v12 : Ref sig .tc := ⟨.hbm, 75, rfl⟩
abbrev main_call4_v13 : Ref sig .tc := ⟨.hbm, 76, rfl⟩
abbrev main_call4_cst : Ref sig .tc := ⟨.hbm, 77, rfl⟩
abbrev main_call4_v14 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_12 : Ref sig .tc := ⟨.hbm, 83, rfl⟩
abbrev main_v38 : Ref sig .tc := ⟨.hbm, 84, rfl⟩
abbrev main_v39 : Ref sig .tc := ⟨.hbm, 85, rfl⟩
abbrev main_cst_13 : Ref sig .tc := ⟨.hbm, 86, rfl⟩
abbrev main_v40 : Ref sig .tc := ⟨.hbm, 87, rfl⟩
abbrev main_cst_14 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_call5_v0 : Ref sig .tc := ⟨.hbm, 92, rfl⟩
abbrev main_call5_v1 : Ref sig .tc := ⟨.hbm, 93, rfl⟩
abbrev main_v43 : Ref sig .tc := ⟨.hbm, 94, rfl⟩
abbrev main_cst_16 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_cst_17 : Ref sig .tc := ⟨.hbm, 99, rfl⟩
abbrev main_call6_v0 : Ref sig .tc := ⟨.hbm, 100, rfl⟩
abbrev main_call6_v1 : Ref sig .tc := ⟨.hbm, 101, rfl⟩
abbrev main_v47 : Ref sig .tc := ⟨.hbm, 102, rfl⟩

abbrev nD : Nat := 1
abbrev τ : Topo := Topo.v7x

variable {F : FTy → Type} [FloatOps F]
-- ==== Proof.Cell.lean ====
/-
  The mathematics of one output cell, over the extended reals: four numbers are pooled to one by the fuzzy set that they
  fit better. Two triangular sets are compared, one centred at 1.5 and one at 3, both of half-width 1.5.
-/
module

public import Idealize.ShloMosaic.Lib.Pointwise

@[expose] public section

namespace Cert.Pool

open Idealize.ShloMosaic

/-- The number 1.5, as the f32 pattern that both programs hold. -/
noncomputable abbrev near : EReal := Ideal.ofBits FTy.f32 1069547520#32

/-- The number 3, as the f32 pattern that both programs hold. -/
noncomputable abbrev far : EReal := Ideal.ofBits FTy.f32 1077936128#32

/-- The triangular membership of `x` in the set centred at `c`: `max (1 - |x - c| / 1.5) 0`. -/
noncomputable def tri (c x : EReal) : EReal :=
  max (1 - Ideal.div (max (x - c) (-(x - c))) near) 0

/-- The sum of `f` over the four numbers of one cell. -/
noncomputable def sum4 (f : EReal → EReal) (a b c d : EReal) : EReal := f a + f b + f c + f d

/-- The centre whose set the four numbers fit better: 1.5 unless the set at 3 collects strictly more membership. -/
noncomputable def centre (a b c d : EReal) : EReal :=
  open Classical in if sum4 (tri far) a b c d ≤ sum4 (tri near) a b c d then near else far

/-- `p / q`, and 0 where `q` is 0. -/
noncomputable def ratio (p q : EReal) : EReal :=
  open Classical in if q = 0 then 0 else Ideal.div p (if q = 0 then 1 else q)

/-- The pooled value of a cell: with `w` the membership in the chosen set, `(Σ w v v) / (Σ w v)`, and 0 where the
    divisor is 0. -/
noncomputable def cell (a b c d : EReal) : EReal :=
  ratio (sum4 (fun v => tri (centre a b c d) v * v * v) a b c d) (sum4 (fun v => tri (centre a b c d) v * v) a b c d)

/-- A sum over 128 lanes of `f` against the indicator of the pair `{2 j, 2 j + 1}` is the sum of `f` over the pair. -/
theorem sum_pair (f : Fin 128 → EReal) (j : Fin 64) :
    ∑ k : Fin 128, f k * (open Classical in if (k : ℕ) / 2 = (j : ℕ) then (1 : EReal) else 0)
      = f ⟨2 * j, by omega⟩ + f ⟨2 * j + 1, by omega⟩ := by
  classical
  have hne : (⟨2 * j, by omega⟩ : Fin 128) ≠ ⟨2 * j + 1, by omega⟩ := by
    intro h; have := congrArg Fin.val h; simp at this
  rw [← Finset.sum_pair hne]
  symm
  have hset : ∀ k : Fin 128, k ∈ ({⟨2 * j, by omega⟩, ⟨2 * j + 1, by omega⟩} : Finset (Fin 128)) ↔ (k : ℕ) / 2 = (j : ℕ) := by
    intro k
    simp only [Finset.mem_insert, Finset.mem_singleton, Fin.ext_iff]
    omega
  rw [← Finset.sum_subset (Finset.subset_univ ({⟨2 * j, by omega⟩, ⟨2 * j + 1, by omega⟩} : Finset (Fin 128)))]
  · refine Finset.sum_congr rfl fun k hk => ?_
    rw [if_pos ((hset k).mp hk), mul_one]
  · intro k _ hk
    rw [if_neg (fun h => hk ((hset k).mpr h)), mul_zero]

/-- The images as both programs take them: 32 batches of 64 channels of 128 rows of 128 numbers. -/
abbrev Images : Type := (⟨4, ![32, 64, 128, 128]⟩ : Shape).Idx → EReal

/-- The pooled images: 64 rows of 64 numbers in each batch and channel. -/
abbrev Pooled : Type := (⟨4, ![32, 64, 64, 64]⟩ : Shape).Idx → EReal

/-- The images pooled: the number at row `i`, column `j` is the cell of rows `2 i`, `2 i + 1` and columns `2 j`,
    `2 j + 1`. -/
noncomputable def pool (x : Images) : Pooled := fun p =>
  have hi : (p 2 : ℕ) < 64 := (p 2).isLt
  have hj : (p 3 : ℕ) < 64 := (p 3).isLt
  cell (x (ix4 (p 0) (p 1) ⟨2 * (p 2 : ℕ), by omega⟩ ⟨2 * (p 3 : ℕ), by omega⟩))
    (x (ix4 (p 0) (p 1) ⟨2 * (p 2 : ℕ), by omega⟩ ⟨2 * (p 3 : ℕ) + 1, by omega⟩))
    (x (ix4 (p 0) (p 1) ⟨2 * (p 2 : ℕ) + 1, by omega⟩ ⟨2 * (p 3 : ℕ), by omega⟩))
    (x (ix4 (p 0) (p 1) ⟨2 * (p 2 : ℕ) + 1, by omega⟩ ⟨2 * (p 3 : ℕ) + 1, by omega⟩))

theorem pool_apply (x : Images) (b : Fin 32) (ch : Fin 64) (i j : Fin 64) :
    pool x (ix4 b ch i j)
      = cell (x (ix4 b ch ⟨2 * i, by omega⟩ ⟨2 * j, by omega⟩)) (x (ix4 b ch ⟨2 * i, by omega⟩ ⟨2 * j + 1, by omega⟩))
          (x (ix4 b ch ⟨2 * i + 1, by omega⟩ ⟨2 * j, by omega⟩)) (x (ix4 b ch ⟨2 * i + 1, by omega⟩ ⟨2 * j + 1, by omega⟩)) :=
  rfl

end Cert.Pool
-- ==== Proof.Block.lean ====
/-
  What one grid step computes: from the block of even image rows and the block of odd image rows (the two halves of a
  row of the packed array), the body leaves at each output position the pooled value of its four numbers.
-/
module

public import proofs.«01_k».proof.Proof.Gen.KernelIdeal.Frame
public import proofs.«01_k».proof.Proof.Cell
public import Idealize.ShloMosaic.Lib.Pointwise
public import Idealize.ShloMosaic.Lib.Pipeline.Value

@[expose] public section

set_option maxRecDepth 16384
noncomputable section

namespace Cert.Pool.Block

open Idealize.ShloMosaic Idealize.ShloMosaic.TcCoe Idealize.SL.Sem
open Cert.KernelIdeal Cert.KernelIdeal.Gen

/-- The block of even rows as the body reads it is the block. -/
theorem even_rows (x : Vec Ideal S8x64x128 .f32) (n : Fin 8) (i : Fin 64) (k : Fin 128) :
    k0_pay2 (F := Ideal) x (ix3 n i k) = x (ix3 n i k) := by
  unfold_payloads; pointwise

/-- The block of odd rows as the body reads it is the block. -/
theorem odd_rows (x : Vec Ideal S8x64x128 .f32) (n : Fin 8) (i : Fin 64) (k : Fin 128) :
    k0_pay3 (F := Ideal) x (ix3 n i k) = x (ix3 n i k) := by
  unfold_payloads; pointwise

/-- The even rows' membership in the set at 1.5. -/
theorem even_near (x : Vec Ideal S8x64x128 .f32) (n : Fin 8) (i : Fin 64) (k : Fin 128) :
    k0_pay4 (F := Ideal) x (ix3 n i k) = tri near (x (ix3 n i k)) := by
  unfold_payloads; pointwise; rfl

/-- The odd rows' membership in the set at 1.5. -/
theorem odd_near (x : Vec Ideal S8x64x128 .f32) (n : Fin 8) (i : Fin 64) (k : Fin 128) :
    k0_pay5 (F := Ideal) x (ix3 n i k) = tri near (x (ix3 n i k)) := by
  unfold_payloads; pointwise; rfl

/-- The even rows' membership in the set at 3. -/
theorem even_far (x : Vec Ideal S8x64x128 .f32) (n : Fin 8) (i : Fin 64) (k : Fin 128) :
    k0_pay6 (F := Ideal) x (ix3 n i k) = tri far (x (ix3 n i k)) := by
  unfold_payloads; pointwise; rfl

/-- The odd rows' membership in the set at 3. -/
theorem odd_far (x : Vec Ideal S8x64x128 .f32) (n : Fin 8) (i : Fin 64) (k : Fin 128) :
    k0_pay8 (F := Ideal) (k0_pay7 x) (ix3 n i k) = tri far (x (ix3 n i k)) := by
  unfold_payloads; pointwise; rfl

/-- The constant matrix that the body multiplies by: 1 where lane `k` belongs to the pair `j`, 0 elsewhere. -/
theorem pairs (k : Fin 128) (j : Fin 64) :
    k0_pay14 (F := Ideal) (ix2 k j) = if (k : ℕ) / 2 = (j : ℕ) then (1 : EReal) else 0 := by
  unfold_payloads
  pointwise
  refine (congrArg (fun w => FloatOps.sitofp (F := Ideal) FTy.f32 (BitVec.setWidth 32 w))
    (?_ : _ = if (k : ℕ) / 2 = (j : ℕ) then 1#1 else 0#1)).trans ?_
  · revert k j; decide +kernel
  · show (((BitVec.setWidth 32 (if (k : ℕ) / 2 = (j : ℕ) then 1#1 else 0#1)).toInt : ℝ) : EReal) = _
    split_ifs
    · norm_num
    · norm_num

/-- A sum over the lanes against the pair matrix is the sum over the pair. -/
theorem sum_pairs (f : Fin 128 → EReal) (j : Fin 64) :
    ∑ k : Fin 128, f k * k0_pay14 (F := Ideal) (ix2 k j) = f ⟨2 * j, by omega⟩ + f ⟨2 * j + 1, by omega⟩ := by
  simp only [pairs]
  exact sum_pair f j

/-- The membership that the body collects in the set at 1.5, over the four numbers of a cell. -/
theorem near_total (p q : Vec Ideal S8x64x128 .f32) (n : Fin 8) (i j : Fin 64) :
    k0_pay15 (F := Ideal) p q (ix2 ⟨n * 64 + i, by omega⟩ j)
      = (p (ix3 n i ⟨2 * j, by omega⟩) + q (ix3 n i ⟨2 * j, by omega⟩))
        + (p (ix3 n i ⟨2 * j + 1, by omega⟩) + q (ix3 n i ⟨2 * j + 1, by omega⟩)) := by
  refine Eq.trans ?_ (sum_pairs (fun k => p (ix3 n i k) + q (ix3 n i k)) j)
  unfold k0_pay15
  pointwise

/-- The pooled value from the five sums, as the body forms it: the set is chosen by comparing the two totals, and its
    numerator is divided by its divisor. -/
theorem pooled (a b c d e : Vec Ideal S8x64x128 .f32) (q : Vec Ideal S512x64 .f32) (n : Fin 8) (i j : Fin 64) :
    k0_pay1 (F := Ideal) a b c d e k0_pay14 q (ix3 n i j)
      = if a (ix3 n i ⟨2 * j, by omega⟩) + a (ix3 n i ⟨2 * j + 1, by omega⟩) ≤ q (ix2 ⟨n * 64 + i, by omega⟩ j)
        then ratio (d (ix3 n i ⟨2 * j, by omega⟩) + d (ix3 n i ⟨2 * j + 1, by omega⟩))
          (b (ix3 n i ⟨2 * j, by omega⟩) + b (ix3 n i ⟨2 * j + 1, by omega⟩))
        else ratio (e (ix3 n i ⟨2 * j, by omega⟩) + e (ix3 n i ⟨2 * j + 1, by omega⟩))
          (c (ix3 n i ⟨2 * j, by omega⟩) + c (ix3 n i ⟨2 * j + 1, by omega⟩)) := by
  unfold k0_pay1
  pointwise [sum_pairs]
  unfold ratio
  by_cases h : a (ix3 n i ⟨2 * j, by omega⟩) + a (ix3 n i ⟨2 * j + 1, by omega⟩) ≤ q (ix2 ⟨n * 64 + i, by omega⟩ j)
  · simp only [if_pos h]
  · simp only [if_neg h]

/-- The membership in the set at 3 that the two blocks hold at one lane. -/
theorem far_lane (p q : Vec Ideal S8x64x128 .f32) (n : Fin 8) (i : Fin 64) (k : Fin 128) :
    k0_pay9 (F := Ideal) (k0_pay6 p) (k0_pay7 q) (ix3 n i k) = tri far (p (ix3 n i k)) + tri far (q (ix3 n i k)) := by
  unfold k0_pay9
  pointwise [even_far, odd_far]

/-- The divisor of the set at 1.5 at one lane. -/
theorem near_divisor (p q : Vec Ideal S8x64x128 .f32) (n : Fin 8) (i : Fin 64) (k : Fin 128) :
    k0_pay10 (F := Ideal) (k0_pay2 p) (k0_pay3 q) (k0_pay4 p) (k0_pay5 q) (ix3 n i k)
      = tri near (p (ix3 n i k)) * p (ix3 n i k) + tri near (q (ix3 n i k)) * q (ix3 n i k) := by
  unfold k0_pay10
  pointwise [even_rows, odd_rows, even_near, odd_near]

/-- The divisor of the set at 3 at one lane. -/
theorem far_divisor (p q : Vec Ideal S8x64x128 .f32) (n : Fin 8) (i : Fin 64) (k : Fin 128) :
    k0_pay11 (F := Ideal) (k0_pay2 p) (k0_pay3 q) (k0_pay6 p) (k0_pay7 q) (ix3 n i k)
      = tri far (p (ix3 n i k)) * p (ix3 n i k) + tri far (q (ix3 n i k)) * q (ix3 n i k) := by
  unfold k0_pay11
  pointwise [even_rows, odd_rows, even_far, odd_far]

/-- The numerator of the set at 1.5 at one lane. -/
theorem near_numerator (p q : Vec Ideal S8x64x128 .f32) (n : Fin 8) (i : Fin 64) (k : Fin 128) :
    k0_pay12 (F := Ideal) (k0_pay2 p) (k0_pay3 q) (k0_pay4 p) (k0_pay5 q) (ix3 n i k)
      = tri near (p (ix3 n i k)) * p (ix3 n i k) * p (ix3 n i k)
        + tri near (q (ix3 n i k)) * q (ix3 n i k) * q (ix3 n i k) := by
  unfold k0_pay12
  pointwise [even_rows, odd_rows, even_near, odd_near]

/-- The numerator of the set at 3 at one lane. -/
theorem far_numerator (p q : Vec Ideal S8x64x128 .f32) (n : Fin 8) (i : Fin 64) (k : Fin 128) :
    k0_pay13 (F := Ideal) (k0_pay2 p) (k0_pay3 q) (k0_pay6 p) (k0_pay7 q) (ix3 n i k)
      = tri far (p (ix3 n i k)) * p (ix3 n i k) * p (ix3 n i k)
        + tri far (q (ix3 n i k)) * q (ix3 n i k) * q (ix3 n i k) := by
  unfold k0_pay13
  pointwise [even_rows, odd_rows, even_far, odd_far]

/-- Two lanes of two rows, added row by row in each lane, are the four numbers of the cell. -/
theorem sum4_lanes (f : EReal → EReal) (a b c d : EReal) : (f a + f c) + (f b + f d) = sum4 f a b c d := by
  unfold sum4; ac_rfl

theorem zero3 : (![0, 0, 0] : Fin 3 → Nat) = fun _ => 0 := funext fun a => by fin_cases a <;> rfl

/-- What the body leaves in the output block, at row `n`, `i` and pair `j`. -/
theorem out_cell (p q : Vec Ideal S8x64x128 .f32) (n : Fin 8) (i j : Fin 64) :
    out0_2 (F := Ideal) p q (ix3 n i j)
      = cell (p (ix3 n i ⟨2 * j, by omega⟩)) (p (ix3 n i ⟨2 * j + 1, by omega⟩))
          (q (ix3 n i ⟨2 * j, by omega⟩)) (q (ix3 n i ⟨2 * j + 1, by omega⟩)) := by
  unfold_out out0_2
  rw [View.canon_unit_zero zero3]
  rw [show View.ld p r0_0 = p from View.ld_unit_zero zero3 _ _, show View.ld q r0_0 = q from View.ld_unit_zero zero3 _ _]
  rw [pooled, near_total]
  simp only [far_lane, near_divisor, far_divisor, near_numerator, far_numerator, even_near, odd_near]
  unfold cell centre
  rw [sum4_lanes (tri far), sum4_lanes (tri near)]
  rw [sum4_lanes (fun v => tri near v * v * v), sum4_lanes (fun v => tri near v * v),
    sum4_lanes (fun v => tri far v * v * v), sum4_lanes (fun v => tri far v * v)]
  split_ifs <;> rfl

end Cert.Pool.Block
-- ==== Proof.Array.lean ====
/-
  What the kernel's arrays hold: the array that its grid steps write holds the pooled value of every cell of the packed
  array (each packed row is an even image row followed by the odd one below it), and the program's result, which is that
  array with its leading axis split again, is the images pooled.
-/
module

public import proofs.«01_k».proof.Proof.Block
public import Idealize.ShloMosaic.Lib.Pipeline.ValueKit

@[expose] public section

set_option maxRecDepth 16384
noncomputable section

namespace Cert.Pool.Array

open Idealize.ShloMosaic Idealize.ShloMosaic.TcCoe Idealize.SL.Sem
open Cert.KernelIdeal Cert.KernelIdeal.Gen

variable (m : (ℓ : Loc nD τ sig) → Buf (Elt Ideal) ℓ)

/-- The block that each window takes at grid step `t`: rows `8 t` to `8 t + 7`, the odd rows' window 128 lanes along. -/
theorem steps : ∀ t : Fin cfg0.N, win0_0.index t = ![t.val, 0, 0] ∧ win0_1.index t = ![t.val, 0, 1] ∧ win0_2.index t = ![t.val, 0, 0] :=
  (by decide +kernel : ∀ t : Fin grid0.N, _)

/-- The packed array pooled, its rows still packed by batch and channel. -/
def poolPacked (y : S2048x64x256.Idx → EReal) : S2048x64x64.Idx → EReal := fun p =>
  have hj : (p 2 : ℕ) < 64 := (p 2).isLt
  cell (y (ix3 (p 0) (p 1) ⟨2 * (p 2 : ℕ), by omega⟩)) (y (ix3 (p 0) (p 1) ⟨2 * (p 2 : ℕ) + 1, by omega⟩))
    (y (ix3 (p 0) (p 1) ⟨128 + 2 * (p 2 : ℕ), by omega⟩)) (y (ix3 (p 0) (p 1) ⟨128 + 2 * (p 2 : ℕ) + 1, by omega⟩))

/-- The rows of the grid's blocks are rows of the packed array. -/
theorem row_lt (t : Fin cfg0.N) (n : Fin 8) : (t : ℕ) * 8 + n < 2048 := by
  have ht : (t : ℕ) < 256 := Nat.lt_of_lt_of_eq t.isLt N_0
  omega

/-- The even rows' block at step `t` is the first 128 lanes of its rows. -/
theorem even_block (c : Dev nD) (t : Fin cfg0.N) (n : Fin 8) (i : Fin 64) (k : Fin 128) :
    iblk m c 0 t (ix3 n i k)
      = V m c main_v0 (ix3 ⟨t * 8 + n, row_lt t n⟩ i ⟨k, by omega⟩) := by
  refine congrArg (V m c main_v0) ?_
  have e := (steps t).1
  blk_ext! [e]

/-- The odd rows' block at step `t` is the last 128 lanes of its rows. -/
theorem odd_block (c : Dev nD) (t : Fin cfg0.N) (n : Fin 8) (i : Fin 64) (k : Fin 128) :
    iblk m c 1 t (ix3 n i k)
      = V m c main_v0 (ix3 ⟨t * 8 + n, row_lt t n⟩ i ⟨128 + k, by omega⟩) := by
  refine congrArg (V m c main_v0) ?_
  have e := (steps t).2.1
  blk_ext! [e]

/-- The output block at step `t` lies at its rows of the written array. -/
theorem out_block (t : Fin cfg0.N) (n : Fin 8) (i j : Fin 64) :
    ((View.whole main_v1).slice (win0_2.rect t)).emb (ix3 n i j)
      = ix3 ⟨t * 8 + n, row_lt t n⟩ i j := by
  have e := (steps t).2.2
  blk_ext! [e]

/-- After the last grid step the written array is the packed array pooled. -/
theorem written (c : Dev nD) : (dats m 0 c).arrAt 2 cfg0.N = poolPacked (V m c main_v0) := by
  refine (dats m 0 c).arrAt_eq_of_covers 2 _ (by decide +kernel) fun t hf y => ?_
  blk_simp
  rw [after0_2]
  change S8x64x64.Idx at y
  idx_vars y
  rw [Block.out_cell, even_block, even_block, odd_block, odd_block, out_block]
  rfl

/-- The packed array, at the entry of the grid, is the argument array with its axes merged. -/
theorem packed_eq (c : Dev nD) :
    V m c main_v0 = shapeCast S2048x64x256 (m ((c : Thread nD τ).loc main_arg0)) shapeCasts_S32x64x128x128_S2048x64x256 := by
  show StableHlo.after hostOps0 _ _ = _
  after_results
  rfl

/-- The program's result is the written array with its leading axis split into batch and channel. -/
theorem result_eq (c : Dev nD) :
    Pipeline.afterTail₀ cfgs (dats m) 0 (V0 m) [hostOps1] c main_v2
      = shapeCast S32x64x64x64 (poolPacked (V m c main_v0)) shapeCasts_S2048x64x64_S32x64x64x64 := by
  have hw := (dats m 0 c).withArrays_arrAt launch₀0.sharedIn (V0 m c) (fun w => A_eq m c w) 2
  rw [written] at hw
  unfold Pipeline.afterTail₀
  show StableHlo.after hostOps1 _ _ = _
  after_results
  exact congrArg (fun A => shapeCast S32x64x64x64 A shapeCasts_S2048x64x64_S32x64x64x64) hw

/-- The packed array at row `n`, `i` and lane `l`: batch `n / 64`, channel `n % 64`, image row `2 i + l / 128`, column
    `l % 128`. -/
theorem packed_apply (x : Images) (n : Fin 2048) (i : Fin 64) (l : Fin 256) :
    shapeCast (α := EReal) S2048x64x256 (s := S32x64x128x128) x shapeCasts_S32x64x128x128_S2048x64x256 (ix3 n i l)
      = x (ix4 ⟨n / 64, by omega⟩ ⟨n % 64, by omega⟩ ⟨2 * i + l / 128, by omega⟩ ⟨l % 128, by omega⟩) := by
  pointwise
  blk_ext

/-- The program's result is the images pooled. -/
theorem result (c : Dev nD) :
    Pipeline.afterTail₀ cfgs (dats m) 0 (V0 m) [hostOps1] c main_v2 = pool (m ((c : Thread nD τ).loc main_arg0)) := by
  rw [result_eq, packed_eq]
  generalize m ((c : Thread nD τ).loc main_arg0) = x
  funext j
  change S32x64x64x64.Idx at j
  change S32x64x128x128.Idx → EReal at x
  idx_vars j
  rw [pool_apply]
  pointwise
  unfold poolPacked
  simp only [ix3_0, ix3_1, ix3_2]
  congr 1 <;> (refine (packed_apply x _ _ _).trans ?_; blk_ext)

/-- Every run of the kernel ends with the images pooled as its result, and with its argument as it was. -/
theorem run (ρ : Dev nD → PrngReg) :
    θ_run defs (onTc (τ := τ) (main (F := Ideal))) ⟨m, fun _ => 0, ρ⟩ (fun r => ∀ c : Dev nD,
      r.2.mem ((c.tc : Thread nD τ).loc main_v2) = pool (m ((c.tc : Thread nD τ).loc main_arg0))
      ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans (result m c),
      ((h c).2 main_arg0 (Pipeline.mem_restRefs_of main_arg0 (by decide) (by decide))).trans (W_main_arg0 m (dats m) c)⟩)
    (run_main m ρ)

end Cert.Pool.Array
-- ==== Proof.RefOps.lean ====
/-
  The reference's operations, in the order in which it runs them, stage by stage; and that its program is their sequence.
-/
module

public import proofs.«01_k».proof.Proof.Gen.ReferenceIdeal
public import Idealize.ShloMosaic.Lib.Claim

@[expose] public section

set_option maxRecDepth 16384
noncomputable section

namespace Cert.Pool.Reference

open Idealize.ShloMosaic Idealize.ShloMosaic.TcCoe Idealize.SL.Sem
open Cert.ReferenceIdeal Cert.ReferenceIdeal.Gen

variable {F : FTy → Type} [FloatOps F]

/-- The larger of a number and a lower bound. -/
def clipOps (arg0 : StableHlo.TRef sig ⟨S32x64x64x64x4, .f32⟩) (arg1 : StableHlo.TRef sig ⟨S_, .f32⟩) (φ : fn_clip.Bufs) : List (HloOp τ sig (Elt F)) :=
  [StableHlo.TRef.unary arg1 φ.v0 id,
   StableHlo.TRef.unary φ.v0 φ.v1 (broadcastInDim S32x64x64x64x4 ![] bcast_S_S32x64x64x64x4),
   StableHlo.TRef.binary φ.v1 arg0 φ.v2 maximumf]

/-- The first place of the largest of three totals. -/
def argmaxOps (arg0 : StableHlo.TRef sig ⟨S3x32x64x64x64, .f32⟩) (φ : fn_argmax.Bufs) : List (HloOp τ sig (Elt F)) :=
  [StableHlo.TRef.nullary φ.v0 (iotaInDim S3x32x64x64x64 32 0),
   StableHlo.TRef.nullary φ.cst (constant S_ .f32 0xFF800000#32),
   StableHlo.TRef.nullary φ.c (constantI S_ 32 0#32),
   StableHlo.TRef.quaternary arg0 φ.v0 φ.cst φ.c φ.v1_0 (fun x y u v j => (Host.argReduce reducer_argmax_f32_i32 x y u v reducesTo_S3x32x64x64x64_S32x64x64x64_d0 h_S_ j).1),
   StableHlo.TRef.quaternary arg0 φ.v0 φ.cst φ.c φ.v1_1 (fun x y u v j => (Host.argReduce reducer_argmax_f32_i32 x y u v reducesTo_S3x32x64x64x64_S32x64x64x64_d0 h_S_ j).2)]

/-- One of three stacked arrays, chosen in each cell. -/
def takeOps (arg0 : StableHlo.TRef sig ⟨S3x32x64x64x64x4, .f32⟩) (arg1 : StableHlo.TRef sig ⟨S1x32x64x64x64x1, .i32⟩) (φ : fn_take_along_axis.Bufs) : List (HloOp τ sig (Elt F)) :=
  [StableHlo.TRef.nullary φ.c (constantI S_ 32 0#32),
   StableHlo.TRef.unary φ.c φ.v0 (broadcastInDim S1x32x64x64x64x1 ![] bcast_S_S1x32x64x64x64x1),
   StableHlo.TRef.binary arg1 φ.v0 φ.v1 (cmpi .slt),
   StableHlo.TRef.nullary φ.c_0 (constantI S_ 32 3#32),
   StableHlo.TRef.unary φ.c_0 φ.v2 (broadcastInDim S1x32x64x64x64x1 ![] bcast_S_S1x32x64x64x64x1),
   StableHlo.TRef.binary arg1 φ.v2 φ.v3 addi,
   StableHlo.TRef.ternary φ.v1 φ.v3 arg1 φ.v4 select,
   StableHlo.TRef.nullary φ.c_1 (constantI S1 32 2#32),
   StableHlo.TRef.nullary φ.c_2 (constantI S_ 32 0#32),
   StableHlo.TRef.unary φ.c_2 φ.v5 (broadcastInDim S1x32x64x64x64x1 ![] bcast_S_S1x32x64x64x64x1),
   StableHlo.TRef.binary φ.v4 φ.v5 φ.v6 (cmpi .sge),
   StableHlo.TRef.unary φ.c_1 φ.v7 (broadcastInDim S1x1x1x1x1x1 ![5] bcast_S1_S1x1x1x1x1x1_5),
   StableHlo.TRef.unary φ.v7 φ.v8 (broadcastInDim S1x32x64x64x64x1 ![0, 1, 2, 3, 4, 5] bcast_S1x1x1x1x1x1_S1x32x64x64x64x1_0_1_2_3_4_5),
   StableHlo.TRef.binary φ.v4 φ.v8 φ.v9 (cmpi .sle),
   StableHlo.TRef.binary φ.v6 φ.v9 φ.v10 andi,
   StableHlo.TRef.nullary φ.c_3 (constantI S_ 1 1#1),
   StableHlo.TRef.binary φ.v10 φ.c_3 φ.v11 (fun x v => Host.reduce IntOp.andi x v reducesTo_S1x32x64x64x64x1_S1x32x64x64x64_d5 h_S_),
   StableHlo.TRef.binary arg0 φ.v4 φ.v12 (fun x i => Host.gather gather_S3x32x64x64x64x4_S1x32x64x64x64x1_S1x32x64x64x64x4_5_0_1234_1234_0_5_111114 x i),
   StableHlo.TRef.unary φ.v11 φ.v13 (broadcastInDim S1x32x64x64x64x4 ![0, 1, 2, 3, 4] bcast_S1x32x64x64x64_S1x32x64x64x64x4_0_1_2_3_4),
   StableHlo.TRef.nullary φ.cst (constant S_ .f32 0x7FC00000#32),
   StableHlo.TRef.unary φ.cst φ.v14 (broadcastInDim S1x32x64x64x64x4 ![] bcast_S_S1x32x64x64x64x4),
   StableHlo.TRef.ternary φ.v13 φ.v12 φ.v14 φ.v15 select]

/-- A constant where a condition holds, an array elsewhere. -/
def whereOps (arg0 : StableHlo.TRef sig ⟨S32x64x64x64, .i1⟩) (arg1 : StableHlo.TRef sig ⟨S_, .f32⟩) (arg2 : StableHlo.TRef sig ⟨S32x64x64x64, .f32⟩) (φ : fn_where.Bufs) : List (HloOp τ sig (Elt F)) :=
  [StableHlo.TRef.unary arg1 φ.v0 id,
   StableHlo.TRef.unary φ.v0 φ.v1 (broadcastInDim S32x64x64x64 ![] bcast_S_S32x64x64x64),
   StableHlo.TRef.ternary arg0 φ.v1 arg2 φ.v2 select]

/-- The four numbers of each cell, brought together. -/
def cellOps : List (HloOp τ sig (Elt F)) :=
  [StableHlo.reshape main_arg0 main_v0 (rfl : (.f32 : EltTy) = .f32) shapeCasts_S32x64x128x128_S32x64x64x2x64x2,
   StableHlo.unary main_v0 main_v1 ((transpose S32x64x64x64x2x2 [0, 1, 2, 4, 3, 5] · transposes_S32x64x64x2x64x2_S32x64x64x64x2x2_0_1_2_4_3_5) : (⟨S32x64x64x2x64x2, .f32⟩ : BufTy).Contents (Elt F) → (⟨S32x64x64x64x2x2, .f32⟩ : BufTy).Contents (Elt F)),
   StableHlo.reshape main_v1 main_v2 (rfl : (.f32 : EltTy) = .f32) shapeCasts_S32x64x64x64x2x2_S32x64x64x64x4]

/-- Each number's membership in the set at 1.5. -/
def nearOps : List (HloOp τ sig (Elt F)) :=
  [StableHlo.nullary main_cst (constant S_ .f32 0x3FC00000#32),
   StableHlo.unary main_cst main_v3 (broadcastInDim S32x64x64x64x4 ![] bcast_S_S32x64x64x64x4 : (⟨S_, .f32⟩ : BufTy).Contents (Elt F) → (⟨S32x64x64x64x4, .f32⟩ : BufTy).Contents (Elt F)),
   StableHlo.binary main_v2 main_v3 main_v4 (subf : (⟨S32x64x64x64x4, .f32⟩ : BufTy).Contents (Elt F) → (⟨S32x64x64x64x4, .f32⟩ : BufTy).Contents (Elt F) → (⟨S32x64x64x64x4, .f32⟩ : BufTy).Contents (Elt F)),
   StableHlo.unary main_v4 main_v5 (Host.absf : (⟨S32x64x64x64x4, .f32⟩ : BufTy).Contents (Elt F) → (⟨S32x64x64x64x4, .f32⟩ : BufTy).Contents (Elt F)),
   StableHlo.nullary main_cst_0 (constant S_ .f32 0x3FC00000#32),
   StableHlo.unary main_cst_0 main_v6 (broadcastInDim S32x64x64x64x4 ![] bcast_S_S32x64x64x64x4 : (⟨S_, .f32⟩ : BufTy).Contents (Elt F) → (⟨S32x64x64x64x4, .f32⟩ : BufTy).Contents (Elt F)),
   StableHlo.binary main_v5 main_v6 main_v7 (Host.divf : (⟨S32x64x64x64x4, .f32⟩ : BufTy).Contents (Elt F) → (⟨S32x64x64x64x4, .f32⟩ : BufTy).Contents (Elt F) → (⟨S32x64x64x64x4, .f32⟩ : BufTy).Contents (Elt F)),
   StableHlo.nullary main_cst_1 (constant S_ .f32 0x3F800000#32),
   StableHlo.unary main_cst_1 main_v8 (broadcastInDim S32x64x64x64x4 ![] bcast_S_S32x64x64x64x4 : (⟨S_, .f32⟩ : BufTy).Contents (Elt F) → (⟨S32x64x64x64x4, .f32⟩ : BufTy).Contents (Elt F)),
   StableHlo.binary main_v8 main_v7 main_v9 (subf : (⟨S32x64x64x64x4, .f32⟩ : BufTy).Contents (Elt F) → (⟨S32x64x64x64x4, .f32⟩ : BufTy).Contents (Elt F) → (⟨S32x64x64x64x4, .f32⟩ : BufTy).Contents (Elt F)),
   StableHlo.nullary main_cst_2 (constant S_ .f32 0x00000000#32)]
    ++ clipOps (.of main_v9) (.of main_cst_2) main_call0

/-- Each number's membership in the second set, at 3. -/
def farOps : List (HloOp τ sig (Elt F)) :=
  [StableHlo.nullary main_cst_3 (constant S_ .f32 0x40400000#32),
   StableHlo.unary main_cst_3 main_v11 (broadcastInDim S32x64x64x64x4 ![] bcast_S_S32x64x64x64x4 : (⟨S_, .f32⟩ : BufTy).Contents (Elt F) → (⟨S32x64x64x64x4, .f32⟩ : BufTy).Contents (Elt F)),
   StableHlo.binary main_v2 main_v11 main_v12 (subf : (⟨S32x64x64x64x4, .f32⟩ : BufTy).Contents (Elt F) → (⟨S32x64x64x64x4, .f32⟩ : BufTy).Contents (Elt F) → (⟨S32x64x64x64x4, .f32⟩ : BufTy).Contents (Elt F)),
   StableHlo.unary main_v12 main_v13 (Host.absf : (⟨S32x64x64x64x4, .f32⟩ : BufTy).Contents (Elt F) → (⟨S32x64x64x64x4, .f32⟩ : BufTy).Contents (Elt F)),
   StableHlo.nullary main_cst_4 (constant S_ .f32 0x3FC00000#32),
   StableHlo.unary main_cst_4 main_v14 (broadcastInDim S32x64x64x64x4 ![] bcast_S_S32x64x64x64x4 : (⟨S_, .f32⟩ : BufTy).Contents (Elt F) → (⟨S32x64x64x64x4, .f32⟩ : BufTy).Contents (Elt F)),
   StableHlo.binary main_v13 main_v14 main_v15 (Host.divf : (⟨S32x64x64x64x4, .f32⟩ : BufTy).Contents (Elt F) → (⟨S32x64x64x64x4, .f32⟩ : BufTy).Contents (Elt F) → (⟨S32x64x64x64x4, .f32⟩ : BufTy).Contents (Elt F)),
   StableHlo.nullary main_cst_5 (constant S_ .f32 0x3F800000#32),
   StableHlo.unary main_cst_5 main_v16 (broadcastInDim S32x64x64x64x4 ![] bcast_S_S32x64x64x64x4 : (⟨S_, .f32⟩ : BufTy).Contents (Elt F) → (⟨S32x64x64x64x4, .f32⟩ : BufTy).Contents (Elt F)),
   StableHlo.binary main_v16 main_v15 main_v17 (subf : (⟨S32x64x64x64x4, .f32⟩ : BufTy).Contents (Elt F) → (⟨S32x64x64x64x4, .f32⟩ : BufTy).Contents (Elt F) → (⟨S32x64x64x64x4, .f32⟩ : BufTy).Contents (Elt F)),
   StableHlo.nullary main_cst_6 (constant S_ .f32 0x00000000#32)]
    ++ clipOps (.of main_v17) (.of main_cst_6) main_call1

/-- Each number's membership in the third set, at 3 as well. -/
def far2Ops : List (HloOp τ sig (Elt F)) :=
  [StableHlo.nullary main_cst_7 (constant S_ .f32 0x40400000#32),
   StableHlo.unary main_cst_7 main_v19 (broadcastInDim S32x64x64x64x4 ![] bcast_S_S32x64x64x64x4 : (⟨S_, .f32⟩ : BufTy).Contents (Elt F) → (⟨S32x64x64x64x4, .f32⟩ : BufTy).Contents (Elt F)),
   StableHlo.binary main_v2 main_v19 main_v20 (subf : (⟨S32x64x64x64x4, .f32⟩ : BufTy).Contents (Elt F) → (⟨S32x64x64x64x4, .f32⟩ : BufTy).Contents (Elt F) → (⟨S32x64x64x64x4, .f32⟩ : BufTy).Contents (Elt F)),
   StableHlo.unary main_v20 main_v21 (Host.absf : (⟨S32x64x64x64x4, .f32⟩ : BufTy).Contents (Elt F) → (⟨S32x64x64x64x4, .f32⟩ : BufTy).Contents (Elt F)),
   StableHlo.nullary main_cst_8 (constant S_ .f32 0x3FC00000#32),
   StableHlo.unary main_cst_8 main_v22 (broadcastInDim S32x64x64x64x4 ![] bcast_S_S32x64x64x64x4 : (⟨S_, .f32⟩ : BufTy).Contents (Elt F) → (⟨S32x64x64x64x4, .f32⟩ : BufTy).Contents (Elt F)),
   StableHlo.binary main_v21 main_v22 main_v23 (Host.divf : (⟨S32x64x64x64x4, .f32⟩ : BufTy).Contents (Elt F) → (⟨S32x64x64x64x4, .f32⟩ : BufTy).Contents (Elt F) → (⟨S32x64x64x64x4, .f32⟩ : BufTy).Contents (Elt F)),
   StableHlo.nullary main_cst_9 (constant S_ .f32 0x3F800000#32),
   StableHlo.unary main_cst_9 main_v24 (broadcastInDim S32x64x64x64x4 ![] bcast_S_S32x64x64x64x4 : (⟨S_, .f32⟩ : BufTy).Contents (Elt F) → (⟨S32x64x64x64x4, .f32⟩ : BufTy).Contents (Elt F)),
   StableHlo.binary main_v24 main_v23 main_v25 (subf : (⟨S32x64x64x64x4, .f32⟩ : BufTy).Contents (Elt F) → (⟨S32x64x64x64x4, .f32⟩ : BufTy).Contents (Elt F) → (⟨S32x64x64x64x4, .f32⟩ : BufTy).Contents (Elt F)),
   StableHlo.nullary main_cst_10 (constant S_ .f32 0x00000000#32)]
    ++ clipOps (.of main_v25) (.of main_cst_10) main_call2

/-- The three memberships stacked, and each one's total over the cell. -/
def stackOps : List (HloOp τ sig (Elt F)) :=
  [StableHlo.unary main_v10 main_v27 (broadcastInDim S1x32x64x64x64x4 ![1, 2, 3, 4, 5] bcast_S32x64x64x64x4_S1x32x64x64x64x4_1_2_3_4_5 : (⟨S32x64x64x64x4, .f32⟩ : BufTy).Contents (Elt F) → (⟨S1x32x64x64x64x4, .f32⟩ : BufTy).Contents (Elt F)),
   StableHlo.unary main_v18 main_v28 (broadcastInDim S1x32x64x64x64x4 ![1, 2, 3, 4, 5] bcast_S32x64x64x64x4_S1x32x64x64x64x4_1_2_3_4_5 : (⟨S32x64x64x64x4, .f32⟩ : BufTy).Contents (Elt F) → (⟨S1x32x64x64x64x4, .f32⟩ : BufTy).Contents (Elt F)),
   StableHlo.unary main_v26 main_v29 (broadcastInDim S1x32x64x64x64x4 ![1, 2, 3, 4, 5] bcast_S32x64x64x64x4_S1x32x64x64x64x4_1_2_3_4_5 : (⟨S32x64x64x64x4, .f32⟩ : BufTy).Contents (Elt F) → (⟨S1x32x64x64x64x4, .f32⟩ : BufTy).Contents (Elt F)),
   StableHlo.nary ![main_v27, main_v28, main_v29] main_v30 (fun u => (concatenate S3x32x64x64x64x4 0 [⟨S1x32x64x64x64x4, (u 0 : (⟨S1x32x64x64x64x4, .f32⟩ : BufTy).Contents (Elt F))⟩, ⟨S1x32x64x64x64x4, (u 1 : (⟨S1x32x64x64x64x4, .f32⟩ : BufTy).Contents (Elt F))⟩, ⟨S1x32x64x64x64x4, (u 2 : (⟨S1x32x64x64x64x4, .f32⟩ : BufTy).Contents (Elt F))⟩] concatenates_S1x32x64x64x64x4_S1x32x64x64x64x4_S1x32x64x64x64x4_S3x32x64x64x64x4_d0 : (⟨S3x32x64x64x64x4, .f32⟩ : BufTy).Contents (Elt F))),
   StableHlo.nullary main_cst_11 (constant S_ .f32 0x00000000#32),
   StableHlo.binary main_v30 main_cst_11 main_v31 ((fun x v => Host.reduceAdd x v reducesTo_S3x32x64x64x64x4_S3x32x64x64x64_d5 h_S_) : (⟨S3x32x64x64x64x4, .f32⟩ : BufTy).Contents (Elt F) → (⟨S_, .f32⟩ : BufTy).Contents (Elt F) → (⟨S3x32x64x64x64, .f32⟩ : BufTy).Contents (Elt F))]

/-- The set whose total is largest. -/
def pickOps : List (HloOp τ sig (Elt F)) :=
  argmaxOps (.of main_v31) main_call3
    ++ [StableHlo.unary main_v32 main_v33 (broadcastInDim S1x32x64x64x64x1 ![1, 2, 3, 4] bcast_S32x64x64x64_S1x32x64x64x64x1_1_2_3_4 : (⟨S32x64x64x64, .i32⟩ : BufTy).Contents (Elt F) → (⟨S1x32x64x64x64x1, .i32⟩ : BufTy).Contents (Elt F))]

/-- The memberships in that set. -/
def chosenOps : List (HloOp τ sig (Elt F)) :=
  takeOps (.of main_v30) (.of main_v33) main_call4
    ++ [StableHlo.reshape main_v34 main_v35 (rfl : (.f32 : EltTy) = .f32) shapeCasts_S1x32x64x64x64x4_S32x64x64x64x4]

/-- The weighted sums. -/
def sumOps : List (HloOp τ sig (Elt F)) :=
  [StableHlo.binary main_v35 main_v2 main_v36 (mulf : (⟨S32x64x64x64x4, .f32⟩ : BufTy).Contents (Elt F) → (⟨S32x64x64x64x4, .f32⟩ : BufTy).Contents (Elt F) → (⟨S32x64x64x64x4, .f32⟩ : BufTy).Contents (Elt F)),
   StableHlo.binary main_v36 main_v2 main_v37 (mulf : (⟨S32x64x64x64x4, .f32⟩ : BufTy).Contents (Elt F) → (⟨S32x64x64x64x4, .f32⟩ : BufTy).Contents (Elt F) → (⟨S32x64x64x64x4, .f32⟩ : BufTy).Contents (Elt F)),
   StableHlo.nullary main_cst_12 (constant S_ .f32 0x00000000#32),
   StableHlo.binary main_v37 main_cst_12 main_v38 ((fun x v => Host.reduceAdd x v reducesTo_S32x64x64x64x4_S32x64x64x64_d4 h_S_) : (⟨S32x64x64x64x4, .f32⟩ : BufTy).Contents (Elt F) → (⟨S_, .f32⟩ : BufTy).Contents (Elt F) → (⟨S32x64x64x64, .f32⟩ : BufTy).Contents (Elt F)),
   StableHlo.binary main_v35 main_v2 main_v39 (mulf : (⟨S32x64x64x64x4, .f32⟩ : BufTy).Contents (Elt F) → (⟨S32x64x64x64x4, .f32⟩ : BufTy).Contents (Elt F) → (⟨S32x64x64x64x4, .f32⟩ : BufTy).Contents (Elt F)),
   StableHlo.nullary main_cst_13 (constant S_ .f32 0x00000000#32),
   StableHlo.binary main_v39 main_cst_13 main_v40 ((fun x v => Host.reduceAdd x v reducesTo_S32x64x64x64x4_S32x64x64x64_d4 h_S_) : (⟨S32x64x64x64x4, .f32⟩ : BufTy).Contents (Elt F) → (⟨S_, .f32⟩ : BufTy).Contents (Elt F) → (⟨S32x64x64x64, .f32⟩ : BufTy).Contents (Elt F))]

/-- The quotient, 0 where the divisor is 0. -/
def quotOps : List (HloOp τ sig (Elt F)) :=
  [StableHlo.nullary main_cst_14 (constant S_ .f32 0x00000000#32),
   StableHlo.unary main_cst_14 main_v41 (broadcastInDim S32x64x64x64 ![] bcast_S_S32x64x64x64 : (⟨S_, .f32⟩ : BufTy).Contents (Elt F) → (⟨S32x64x64x64, .f32⟩ : BufTy).Contents (Elt F)),
   StableHlo.binary main_v40 main_v41 main_v42 (cmpf .oeq : (⟨S32x64x64x64, .f32⟩ : BufTy).Contents (Elt F) → (⟨S32x64x64x64, .f32⟩ : BufTy).Contents (Elt F) → (⟨S32x64x64x64, .i1⟩ : BufTy).Contents (Elt F)),
   StableHlo.nullary main_cst_15 (constant S_ .f32 0x3F800000#32)]
    ++ whereOps (.of main_v42) (.of main_cst_15) (.of main_v40) main_call5
    ++ [StableHlo.nullary main_cst_16 (constant S_ .f32 0x00000000#32),
   StableHlo.unary main_cst_16 main_v44 (broadcastInDim S32x64x64x64 ![] bcast_S_S32x64x64x64 : (⟨S_, .f32⟩ : BufTy).Contents (Elt F) → (⟨S32x64x64x64, .f32⟩ : BufTy).Contents (Elt F)),
   StableHlo.binary main_v40 main_v44 main_v45 (cmpf .oeq : (⟨S32x64x64x64, .f32⟩ : BufTy).Contents (Elt F) → (⟨S32x64x64x64, .f32⟩ : BufTy).Contents (Elt F) → (⟨S32x64x64x64, .i1⟩ : BufTy).Contents (Elt F)),
   StableHlo.binary main_v38 main_v43 main_v46 (Host.divf : (⟨S32x64x64x64, .f32⟩ : BufTy).Contents (Elt F) → (⟨S32x64x64x64, .f32⟩ : BufTy).Contents (Elt F) → (⟨S32x64x64x64, .f32⟩ : BufTy).Contents (Elt F)),
   StableHlo.nullary main_cst_17 (constant S_ .f32 0x00000000#32)]
    ++ whereOps (.of main_v45) (.of main_cst_17) (.of main_v46) main_call6

/-- All of the reference's operations. -/
def allOps : List (HloOp τ sig (Elt F)) :=
  cellOps ++ (nearOps ++ (farOps ++ (far2Ops ++ (stackOps ++ (pickOps ++ (chosenOps ++ (sumOps ++ (quotOps))))))))

set_option maxHeartbeats 4000000 in
/-- The reference's program is the sequence of its operations. -/
theorem main_eq (d : Dev nD) : main (F := F) d = StableHlo.seq allOps := by
  chain_rfl

end Cert.Pool.Reference
-- ==== Proof.RefRun.lean ====
/-
  What each stage of the reference leaves, as one expression of what it finds, and the run of the whole reference.
-/
module

public import proofs.«01_k».proof.Proof.RefOps
public import Idealize.ShloMosaic.Lib.Claim
public import Idealize.ShloMosaic.Lib.Pipeline.Frame
public import Idealize.ShloMosaic.Lib.Pointwise

@[expose] public section

set_option maxRecDepth 16384
noncomputable section

namespace Cert.Pool.Reference

open Idealize.ShloMosaic Idealize.ShloMosaic.TcCoe Idealize.SL.Sem
open Cert.ReferenceIdeal Cert.ReferenceIdeal.Gen

/-! ## The stages as functions of arrays -/

/-- The four numbers of every cell along a last axis. -/
def quads (x : FVec Ideal S32x64x128x128 .f32) : FVec Ideal S32x64x64x64x4 .f32 :=
  shapeCast S32x64x64x64x4
    (transpose S32x64x64x64x2x2 [0, 1, 2, 4, 3, 5]
      (shapeCast S32x64x64x2x64x2 x shapeCasts_S32x64x128x128_S32x64x64x2x64x2)
      transposes_S32x64x64x2x64x2_S32x64x64x64x2x2_0_1_2_4_3_5)
    shapeCasts_S32x64x64x64x2x2_S32x64x64x64x4

/-- One number everywhere. -/
def fill (w : BitVec 32) : FVec Ideal S32x64x64x64x4 .f32 :=
  broadcastInDim S32x64x64x64x4 ![] bcast_S_S32x64x64x64x4 (constant (F := Ideal) S_ .f32 w)

/-- The memberships in the triangular set centred at the number with bits `c`. -/
def members (c : BitVec 32) (p : FVec Ideal S32x64x64x64x4 .f32) : FVec Ideal S32x64x64x64x4 .f32 :=
  maximumf (fill 0x00000000#32)
    (subf (fill 0x3F800000#32) (Host.divf (Host.absf (subf p (fill c))) (fill 0x3FC00000#32)))

/-- An array with a leading axis of length 1. -/
def lead (a : FVec Ideal S32x64x64x64x4 .f32) : FVec Ideal S1x32x64x64x64x4 .f32 :=
  broadcastInDim S1x32x64x64x64x4 ![1, 2, 3, 4, 5] bcast_S32x64x64x64x4_S1x32x64x64x64x4_1_2_3_4_5 a

/-- Three arrays stacked along a leading axis. -/
def stack (a b c : FVec Ideal S32x64x64x64x4 .f32) : FVec Ideal S3x32x64x64x64x4 .f32 :=
  concatenate S3x32x64x64x64x4 0 [⟨S1x32x64x64x64x4, lead a⟩, ⟨S1x32x64x64x64x4, lead b⟩, ⟨S1x32x64x64x64x4, lead c⟩]
    concatenates_S1x32x64x64x64x4_S1x32x64x64x64x4_S1x32x64x64x64x4_S3x32x64x64x64x4_d0

/-- The totals of a stack over each cell. -/
def totals (t : FVec Ideal S3x32x64x64x64x4 .f32) : FVec Ideal S3x32x64x64x64 .f32 :=
  Host.reduceAdd t (constant (F := Ideal) S_ .f32 0x00000000#32) reducesTo_S3x32x64x64x64x4_S3x32x64x64x64_d5 h_S_

/-- The place of the largest total. -/
def pick (s : FVec Ideal S3x32x64x64x64 .f32) : IVec S32x64x64x64 32 := fun j =>
  (Host.argReduce reducer_argmax_f32_i32 s (iotaInDim S3x32x64x64x64 32 0) (constant (F := Ideal) S_ .f32 0xFF800000#32)
    (constantI S_ 32 0#32) reducesTo_S3x32x64x64x64_S32x64x64x64_d0 h_S_ j).2

/-- The picked place is the second component of the search's result. -/
theorem pick_def (s : FVec Ideal S3x32x64x64x64 .f32) : pick s = fun j =>
    (Host.argReduce reducer_argmax_f32_i32 s (iotaInDim S3x32x64x64x64 32 0) (constant (F := Ideal) S_ .f32 0xFF800000#32)
      (constantI S_ 32 0#32) reducesTo_S3x32x64x64x64_S32x64x64x64_d0 h_S_ j).2 := by
  delta pick
  exact Eq.refl _

/-- The places with axes of length 1 around them. -/
def wide (i : IVec S32x64x64x64 32) : IVec S1x32x64x64x64x1 32 :=
  broadcastInDim S1x32x64x64x64x1 ![1, 2, 3, 4] bcast_S32x64x64x64_S1x32x64x64x64x1_1_2_3_4 i

/-- One integer everywhere. -/
def fillI (w : BitVec 32) : IVec S1x32x64x64x64x1 32 :=
  broadcastInDim S1x32x64x64x64x1 ![] bcast_S_S1x32x64x64x64x1 (constantI S_ 32 w)

/-- A negative place counted from the end. -/
def fromEnd (i : IVec S1x32x64x64x64x1 32) : IVec S1x32x64x64x64x1 32 :=
  select (cmpi .slt i (fillI 0#32)) (addi i (fillI 3#32)) i

/-- Whether a place lies in the stack. -/
def within (i : IVec S1x32x64x64x64x1 32) : IVec S1x32x64x64x64 1 :=
  Host.reduce IntOp.andi
    (andi (cmpi .sge i (fillI 0#32))
      (cmpi .sle i (broadcastInDim S1x32x64x64x64x1 ![0, 1, 2, 3, 4, 5] bcast_S1x1x1x1x1x1_S1x32x64x64x64x1_0_1_2_3_4_5
        (broadcastInDim S1x1x1x1x1x1 ![5] bcast_S1_S1x1x1x1x1x1_5 (constantI S1 32 2#32)))))
    (constantI S_ 1 1#1) reducesTo_S1x32x64x64x64x1_S1x32x64x64x64_d5 h_S_

/-- The member of a stack at a place, in each cell. -/
def taken (t : FVec Ideal S3x32x64x64x64x4 .f32) (i : IVec S1x32x64x64x64x1 32) : FVec Ideal S1x32x64x64x64x4 .f32 :=
  Host.gather gather_S3x32x64x64x64x4_S1x32x64x64x64x1_S1x32x64x64x64x4_5_0_1234_1234_0_5_111114 t i

/-- The member of a stack at a place where the place lies in the stack, and no number elsewhere. -/
def chosen (t : FVec Ideal S3x32x64x64x64x4 .f32) (i : IVec S1x32x64x64x64x1 32) : FVec Ideal S32x64x64x64x4 .f32 :=
  shapeCast S32x64x64x64x4
    (select
      (broadcastInDim S1x32x64x64x64x4 ![0, 1, 2, 3, 4] bcast_S1x32x64x64x64_S1x32x64x64x64x4_0_1_2_3_4 (within (fromEnd i)))
      (taken t (fromEnd i))
      (broadcastInDim S1x32x64x64x64x4 ![] bcast_S_S1x32x64x64x64x4 (constant (F := Ideal) S_ .f32 0x7FC00000#32)))
    shapeCasts_S1x32x64x64x64x4_S32x64x64x64x4

/-- The sum over each cell. -/
def total (a : FVec Ideal S32x64x64x64x4 .f32) : FVec Ideal S32x64x64x64 .f32 :=
  Host.reduceAdd a (constant (F := Ideal) S_ .f32 0x00000000#32) reducesTo_S32x64x64x64x4_S32x64x64x64_d4 h_S_

/-- One number for every cell. -/
def fillC (w : BitVec 32) : FVec Ideal S32x64x64x64 .f32 :=
  broadcastInDim S32x64x64x64 ![] bcast_S_S32x64x64x64 (constant (F := Ideal) S_ .f32 w)

/-- The quotient, 0 where the divisor is 0. -/
def quot (p q : FVec Ideal S32x64x64x64 .f32) : FVec Ideal S32x64x64x64 .f32 :=
  select (cmpf .oeq q (fillC 0x00000000#32)) (fillC 0x00000000#32)
    (Host.divf p (select (cmpf .oeq q (fillC 0x00000000#32)) (fillC 0x3F800000#32) q))

/-- The stack of the three memberships. -/
def sets (p : FVec Ideal S32x64x64x64x4 .f32) : FVec Ideal S3x32x64x64x64x4 .f32 :=
  stack (members 0x3FC00000#32 p) (members 0x40400000#32 p) (members 0x40400000#32 p)

/-- The memberships in the chosen set. -/
def weights (p : FVec Ideal S32x64x64x64x4 .f32) : FVec Ideal S32x64x64x64x4 .f32 :=
  chosen (sets p) (wide (pick (totals (sets p))))

/-- What the reference computes of the four numbers of every cell. -/
def pooled (p : FVec Ideal S32x64x64x64x4 .f32) : FVec Ideal S32x64x64x64 .f32 :=
  quot (total (mulf (mulf (weights p) p) p)) (total (mulf (weights p) p))

/-! ## What each stage leaves -/

/-- What the buffers hold. -/
abbrev Val := Valuation τ sig (Elt Ideal)

/-- The first stage brings the numbers of a cell together. -/
theorem cell_stage (V : Val) : StableHlo.after cellOps V (Proc.devRef .tc main_v2) = quads (V (Proc.devRef .tc main_arg0)) := by
  unfold cellOps
  after_results
  rfl

/-- The second stage leaves the memberships in the set at 1.5. -/
theorem near_stage (V : Val) : StableHlo.after nearOps V (Proc.devRef .tc main_v10) = members 0x3FC00000#32 (V (Proc.devRef .tc main_v2)) := by
  unfold nearOps clipOps
  simp only [List.cons_append, List.nil_append]
  after_results
  rfl

/-- The third stage leaves the memberships in the second set. -/
theorem far_stage (V : Val) : StableHlo.after farOps V (Proc.devRef .tc main_v18) = members 0x40400000#32 (V (Proc.devRef .tc main_v2)) := by
  unfold farOps clipOps
  simp only [List.cons_append, List.nil_append]
  after_results
  rfl

/-- The fourth stage leaves the memberships in the third set. -/
theorem far2_stage (V : Val) : StableHlo.after far2Ops V (Proc.devRef .tc main_v26) = members 0x40400000#32 (V (Proc.devRef .tc main_v2)) := by
  unfold far2Ops clipOps
  simp only [List.cons_append, List.nil_append]
  after_results
  rfl

/-- The fifth stage leaves the stack of the three sets' memberships. -/
theorem stack_stage (V : Val) : StableHlo.after stackOps V (Proc.devRef .tc main_v30) = stack (V (Proc.devRef .tc main_v10)) (V (Proc.devRef .tc main_v18)) (V (Proc.devRef .tc main_v26)) := by
  unfold stackOps
  after_results
  rfl

/-- The fifth stage leaves that stack's totals. -/
theorem totals_stage (V : Val) : StableHlo.after stackOps V (Proc.devRef .tc main_v31) = totals (stack (V (Proc.devRef .tc main_v10)) (V (Proc.devRef .tc main_v18)) (V (Proc.devRef .tc main_v26))) := by
  unfold stackOps
  after_results
  rfl

/-- The sixth stage leaves the place of the largest total. -/
theorem pick_stage (V : Val) : StableHlo.after pickOps V (Proc.devRef .tc main_v33) = wide (pick (V (Proc.devRef .tc main_v31))) := by
  unfold pickOps argmaxOps
  simp only [List.cons_append, List.nil_append]
  after_results
  rfl

/-- The seventh stage leaves the memberships in the chosen set. -/
theorem chosen_stage (V : Val) : StableHlo.after chosenOps V (Proc.devRef .tc main_v35) = chosen (V (Proc.devRef .tc main_v30)) (V (Proc.devRef .tc main_v33)) := by
  unfold chosenOps takeOps
  simp only [List.cons_append, List.nil_append]
  after_results
  simp only [StableHlo.TRef.ofBuf_toBuf]
  simp only [StableHlo.TRef.ofBuf, StableHlo.TRef.toBuf, StableHlo.TRef.of, cast_eq]
  rfl

/-- The eighth stage leaves the numerator. -/
theorem numer_stage (V : Val) : StableHlo.after sumOps V (Proc.devRef .tc main_v38) = total (mulf (mulf (V (Proc.devRef .tc main_v35)) (V (Proc.devRef .tc main_v2))) (V (Proc.devRef .tc main_v2))) := by
  unfold sumOps
  after_results
  rfl

/-- The eighth stage leaves the divisor. -/
theorem divisor_stage (V : Val) : StableHlo.after sumOps V (Proc.devRef .tc main_v40) = total (mulf (V (Proc.devRef .tc main_v35)) (V (Proc.devRef .tc main_v2))) := by
  unfold sumOps
  after_results
  rfl

/-- The last stage leaves the quotient. -/
theorem quot_stage (V : Val) : StableHlo.after quotOps V (Proc.devRef .tc main_v47) = quot (V (Proc.devRef .tc main_v38)) (V (Proc.devRef .tc main_v40)) := by
  unfold quotOps whereOps
  simp only [List.cons_append, List.nil_append]
  after_results
  rfl

/-! ## What the later stages keep -/

/-- A stage keeps every buffer outside the list of those that it writes. -/
theorem keeps {ops : List (HloOp τ sig (Elt Ideal))} {W : List (Ref sig .tc)}
    (h : ops.map HloOp.writes = W.map fun r => {Proc.devRef (τ := τ) .tc r}) {r : Ref sig .tc} (hr : r ∉ W) (V : Val) :
    StableHlo.after ops V (Proc.devRef .tc r) = V (Proc.devRef .tc r) :=
  StableHlo.after_of_writes_sub ops V (StableHlo.forall_writes_sub_of_map h) hr

/-- What the first stage writes. -/
abbrev cellRefs : List (Ref sig .tc) :=
  [main_v0, main_v1, main_v2]

theorem cell_writes : (cellOps (F := Ideal)).map HloOp.writes = cellRefs.map fun r => {Proc.devRef (τ := τ) .tc r} := rfl

/-- What the second stage writes. -/
abbrev nearRefs : List (Ref sig .tc) :=
  [main_cst, main_v3, main_v4, main_v5, main_cst_0, main_v6, main_v7, main_cst_1, main_v8, main_v9,
   main_cst_2, main_call0_v0, main_call0_v1, main_v10]

theorem near_writes : (nearOps (F := Ideal)).map HloOp.writes = nearRefs.map fun r => {Proc.devRef (τ := τ) .tc r} := rfl

/-- What the third stage writes. -/
abbrev farRefs : List (Ref sig .tc) :=
  [main_cst_3, main_v11, main_v12, main_v13, main_cst_4, main_v14, main_v15, main_cst_5, main_v16, main_v17,
   main_cst_6, main_call1_v0, main_call1_v1, main_v18]

theorem far_writes : (farOps (F := Ideal)).map HloOp.writes = farRefs.map fun r => {Proc.devRef (τ := τ) .tc r} := rfl

/-- What the fourth stage writes. -/
abbrev far2Refs : List (Ref sig .tc) :=
  [main_cst_7, main_v19, main_v20, main_v21, main_cst_8, main_v22, main_v23, main_cst_9, main_v24, main_v25,
   main_cst_10, main_call2_v0, main_call2_v1, main_v26]

theorem far2_writes : (far2Ops (F := Ideal)).map HloOp.writes = far2Refs.map fun r => {Proc.devRef (τ := τ) .tc r} := rfl

/-- What the fifth stage writes. -/
abbrev stackRefs : List (Ref sig .tc) :=
  [main_v27, main_v28, main_v29, main_v30, main_cst_11, main_v31]

theorem stack_writes : (stackOps (F := Ideal)).map HloOp.writes = stackRefs.map fun r => {Proc.devRef (τ := τ) .tc r} := rfl

/-- What the sixth stage writes. -/
abbrev pickRefs : List (Ref sig .tc) :=
  [main_call3_v0, main_call3_cst, main_call3_c, main_call3_v1_0, main_v32, main_v33]

theorem pick_writes : (pickOps (F := Ideal)).map HloOp.writes = pickRefs.map fun r => {Proc.devRef (τ := τ) .tc r} := rfl

/-- What the seventh stage writes. -/
abbrev chosenRefs : List (Ref sig .tc) :=
  [main_call4_c, main_call4_v0, main_call4_v1, main_call4_c_0, main_call4_v2, main_call4_v3, main_call4_v4,
   main_call4_c_1, main_call4_c_2, main_call4_v5, main_call4_v6, main_call4_v7, main_call4_v8, main_call4_v9,
   main_call4_v10, main_call4_c_3, main_call4_v11, main_call4_v12, main_call4_v13, main_call4_cst,
   main_call4_v14, main_v34, main_v35]

theorem chosen_writes : (chosenOps (F := Ideal)).map HloOp.writes = chosenRefs.map fun r => {Proc.devRef (τ := τ) .tc r} := rfl

/-- What the eighth stage writes. -/
abbrev sumRefs : List (Ref sig .tc) :=
  [main_v36, main_v37, main_cst_12, main_v38, main_v39, main_cst_13, main_v40]

theorem sum_writes : (sumOps (F := Ideal)).map HloOp.writes = sumRefs.map fun r => {Proc.devRef (τ := τ) .tc r} := rfl

/-- What the last stage writes. -/
abbrev quotRefs : List (Ref sig .tc) :=
  [main_cst_14, main_v41, main_v42, main_cst_15, main_call5_v0, main_call5_v1, main_v43, main_cst_16,
   main_v44, main_v45, main_v46, main_cst_17, main_call6_v0, main_call6_v1, main_v47]

theorem quot_writes : (quotOps (F := Ideal)).map HloOp.writes = quotRefs.map fun r => {Proc.devRef (τ := τ) .tc r} := rfl

/-! ## The run -/

/-- The reference keeps its argument. -/
theorem after_arg (V : Val) : StableHlo.after allOps V (Proc.devRef .tc main_arg0) = V (Proc.devRef .tc main_arg0) := by
  unfold allOps
  simp only [StableHlo.after_append]
  rw [keeps quot_writes (by decide), keeps sum_writes (by decide), keeps chosen_writes (by decide),
    keeps pick_writes (by decide), keeps stack_writes (by decide), keeps far2_writes (by decide),
    keeps far_writes (by decide), keeps near_writes (by decide), keeps cell_writes (by decide)]

/-- The reference's result, of its argument. -/
theorem after_result (V : Val) :
    StableHlo.after allOps V (Proc.devRef .tc main_v47) = pooled (quads (V (Proc.devRef .tc main_arg0))) := by
  unfold allOps pooled weights sets
  simp only [StableHlo.after_append]
  rw [quot_stage, numer_stage, divisor_stage, chosen_stage, pick_stage, keeps chosen_writes (r := main_v2) (by decide),
    keeps pick_writes (r := main_v2) (by decide), keeps pick_writes (r := main_v30) (by decide), totals_stage,
    stack_stage, keeps stack_writes (r := main_v2) (by decide), far2_stage, keeps far2_writes (r := main_v2) (by decide),
    keeps far2_writes (r := main_v18) (by decide), keeps far2_writes (r := main_v10) (by decide), far_stage,
    keeps far_writes (r := main_v2) (by decide), keeps far_writes (r := main_v10) (by decide), near_stage,
    keeps near_writes (r := main_v2) (by decide), cell_stage]

/-- Every operation touches buffers of the core alone. -/
theorem allOps_sub : (allOps (F := Ideal)).Forall fun op => op.bufs ⊆ StableHlo.tcRefs τ sig := by
  simp [allOps, cellOps, nearOps, farOps, far2Ops, stackOps, pickOps, chosenOps, sumOps, quotOps, clipOps, argmaxOps,
    takeOps, whereOps]

/-- Every operation determines its results. -/
theorem allOps_fresh : ∀ op ∈ allOps (F := Ideal), op.fresh = ∅ := by
  intro _ h; (repeat (cases h with | head => rfl | tail _ h => ?_)); exact nomatch h

variable (m : (ℓ : Loc nD τ sig) → Buf (Elt Ideal) ℓ) (ρ : Dev nD → PrngReg)

/-- Every run of the reference ends with its function of the argument as the result, and with the argument as it was. -/
theorem run : θ_run defs (onTc (τ := τ) (main (F := Ideal))) ⟨m, fun _ => 0, ρ⟩ (fun r => ∀ c : Dev nD,
    r.2.mem ((c.tc : Thread nD τ).loc main_v47) = pooled (quads (m ((c.tc : Thread nD τ).loc main_arg0)))
    ∧ r.2.mem ((c.tc : Thread nD τ).loc main_arg0) = m ((c.tc : Thread nD τ).loc main_arg0)) :=
  (θ_run defs _ _).mono
    (fun _ h c => ⟨(h c main_v47).trans (after_result _), (h c main_arg0).trans (after_arg _)⟩)
    (StableHlo.run_seq (by decide) (by decide) defs main (fun _ => allOps) main_eq (fun _ => allOps_sub) m ρ
      (fun _ => allOps_fresh))

end Cert.Pool.Reference
-- ==== Proof.RefSets.lean ====
/-
  The reference's arrays at an index: the four numbers of a cell, their memberships in the three sets, the sets' totals,
  the sums over a cell and the quotient.
-/
module

public import proofs.«01_k».proof.Proof.RefRun
public import proofs.«01_k».proof.Proof.Cell
public import Idealize.ShloMosaic.Lib.Pointwise

@[expose] public section

set_option maxRecDepth 16384
noncomputable section

namespace Cert.Pool.Reference

open Idealize.ShloMosaic
open Cert.ReferenceIdeal Cert.ReferenceIdeal.Gen

/-- Number `q` of a cell lies in row `q / 2` and column `q % 2` of the cell. -/
theorem quads_apply (x : Images) (b : Fin 32) (ch i j : Fin 64) (q : Fin 4) :
    quads x (ix5 b ch i j q) = x (ix4 b ch ⟨2 * i + q / 2, by omega⟩ ⟨2 * j + q % 2, by omega⟩) := by
  unfold quads
  pointwise
  simp only [Nat.mul_comm]

/-- A membership is the triangular one. -/
theorem members_apply (c : BitVec 32) (p : FVec Ideal S32x64x64x64x4 .f32) (k : S32x64x64x64x4.Idx) :
    members c p k = tri (Ideal.ofBits FTy.f32 c) (p k) := by
  unfold members fill tri
  pointwise
  exact max_comm _ _

/-- The first array of a stack. -/
theorem stack_first (a b c : FVec Ideal S32x64x64x64x4 .f32) (k0 : Fin 32) (k1 k2 k3 : Fin 64) (k4 : Fin 4) :
    stack a b c (ix6 0 k0 k1 k2 k3 k4) = a (ix5 k0 k1 k2 k3 k4) := by
  unfold stack lead
  pointwise

/-- The second array of a stack. -/
theorem stack_second (a b c : FVec Ideal S32x64x64x64x4 .f32) (k0 : Fin 32) (k1 k2 k3 : Fin 64) (k4 : Fin 4) :
    stack a b c (ix6 1 k0 k1 k2 k3 k4) = b (ix5 k0 k1 k2 k3 k4) := by
  unfold stack lead
  pointwise

/-- The third array of a stack. -/
theorem stack_third (a b c : FVec Ideal S32x64x64x64x4 .f32) (k0 : Fin 32) (k1 k2 k3 : Fin 64) (k4 : Fin 4) :
    stack a b c (ix6 2 k0 k1 k2 k3 k4) = c (ix5 k0 k1 k2 k3 k4) := by
  unfold stack lead
  pointwise

/-- A stack's total over a cell is the sum of the cell's four entries. -/
theorem totals_apply (t : FVec Ideal S3x32x64x64x64x4 .f32) (s : Fin 3) (b : Fin 32) (ch i j : Fin 64) :
    totals t (ix5 s b ch i j)
      = t (ix6 s b ch i j 0) + t (ix6 s b ch i j 1) + t (ix6 s b ch i j 2) + t (ix6 s b ch i j 3) := by
  have hlift : ∀ (h : S3x32x64x64x64x4.Reduces [5] S3x32x64x64x64) (q : Fin 4),
      h.lift (ix5 s b ch i j) q = ix6 s b ch i j q := by
    intro h q
    funext a
    refine Fin.ext ?_
    fin_cases a <;> rfl
  unfold totals
  pointwise
  rw [Ideal.hostReduceAdd_single _ (by decide : S3x32x64x64x64x4.Reduces [5] S3x32x64x64x64)]
  refine (zero_add _).trans ((Fin.sum_univ_four _).trans ?_)
  simp only [hlift]

/-- The sum over a cell is the sum of the cell's four entries. -/
theorem total_apply (a : FVec Ideal S32x64x64x64x4 .f32) (b : Fin 32) (ch i j : Fin 64) :
    total a (ix4 b ch i j) = a (ix5 b ch i j 0) + a (ix5 b ch i j 1) + a (ix5 b ch i j 2) + a (ix5 b ch i j 3) := by
  unfold total
  pointwise
  exact Fin.sum_univ_four _

/-- The quotient is 0 where the divisor is 0. -/
theorem quot_apply (p q : FVec Ideal S32x64x64x64 .f32) (k : S32x64x64x64.Idx) :
    quot p q k = ratio (p k) (q k) := by
  unfold quot fillC ratio
  pointwise

end Cert.Pool.Reference
-- ==== Proof.RefPick.lean ====
/-
  Which of three totals the reference picks in a cell: the first of the largest. Where the second and the third are
  equal, that is the first when it is at least the second, and the second otherwise.
-/
module

public import proofs.«01_k».proof.Proof.RefRun
public import Idealize.ShloMosaic.Lib.Pointwise

@[expose] public section

set_option maxRecDepth 16384
noncomputable section

namespace Cert.Pool.Reference

open Idealize.ShloMosaic
open Cert.ReferenceIdeal Cert.ReferenceIdeal.Gen

/-- The lower bound from which the search starts lies below every number. -/
theorem start_eq : Ideal.ofBits FTy.f32 0xFF800000#32 = ⊥ := by simp [Ideal.ofBits, Ideal.ieee]

/-- The greater of two numbers with its place, and on equal numbers the lesser place. -/
theorem greater (a b : EReal) (i j : BitVec 32) :
    reducer_argmax_f32_i32 (F := Ideal) (a, i) (b, j)
      = (open Classical in if b < a then (a, i) else (b, if a = b ∧ i.slt j then i else j)) := by
  classical
  unfold reducer_argmax_f32_i32
  by_cases h1 : b < a <;> by_cases h2 : a = b <;> by_cases h3 : i.slt j <;>
    simp [Ideal.cmp, Ideal.cmpf_def, h1, h2, h3, Scalar.select, IntOp.ori, IntOp.andi, IntOp.cmpi]

/-- Three numbers of which the last two are equal: the search ends at place 0 when the first is at least the second, and
    at place 1 otherwise. -/
theorem search (a b : EReal) :
    ([(a, 0#32), (b, 1#32), (b, 2#32)].foldl (reducer_argmax_f32_i32 (F := Ideal)) (⊥, 0#32)).2
      = (open Classical in if b ≤ a then 0#32 else 1#32) := by
  classical
  have h00 : (if (⊥ : EReal) = a ∧ (0#32).slt 0#32 then 0#32 else 0#32) = 0#32 := ite_self _
  have h01 : (0#32).slt 1#32 = true := by decide
  have h02 : (0#32).slt 2#32 = true := by decide
  have h12 : (1#32).slt 2#32 = true := by decide
  simp only [List.foldl_cons, List.foldl_nil, greater, if_neg not_lt_bot, h00]
  rcases lt_trichotomy b a with h | h | h
  · simp [h, h.le, greater]
  · simp [h, greater, h01, h02]
  · simp [h, greater, h.not_gt, h.ne, h.not_ge, h12]

/-- The places of a cell's three totals, in the order of the array. -/
theorem places (b : Fin 32) (ch i j : Fin 64) :
    (List.finRange S3x32x64x64x64.numel).filter (fun n =>
        reducesTo_S3x32x64x64x64_S32x64x64x64_d0.drop (S3x32x64x64x64.rowMajor.symm n) = ix4 b ch i j)
      = [S3x32x64x64x64.rowMajor (ix5 0 b ch i j), S3x32x64x64x64.rowMajor (ix5 1 b ch i j),
          S3x32x64x64x64.rowMajor (ix5 2 b ch i j)] := by
  have hval : ∀ k : Fin 3, (S3x32x64x64x64.rowMajor (ix5 k b ch i j) : Nat)
      = k * 8388608 + b * 262144 + ch * 4096 + i * 64 + j := fun k =>
    rowMajor_val5 (ix5 k b ch i j) _ _ _ _ (by decide) (by decide) (by decide) (by decide)
  refine List.SortedLT.eq_of_mem_iff ((List.sortedLT_finRange _).pairwise.filter _).sortedLT ?_ fun n => ?_
  · refine List.Pairwise.sortedLT ?_
    simp only [List.pairwise_cons, List.mem_cons, forall_eq_or_imp, List.not_mem_nil, Fin.lt_def, hval]
    simp
  · rw [List.mem_filter]
    simp only [List.mem_finRange, true_and, decide_eq_true_eq, List.mem_cons, List.not_mem_nil, or_false]
    rw [Shape.ReducesTo.fiber_r5_a0]
    have hk : ∀ (k : Fin 3), (ix5 k b ch i j = S3x32x64x64x64.rowMajor.symm n) ↔ n = S3x32x64x64x64.rowMajor (ix5 k b ch i j) :=
      fun k => (Equiv.eq_symm_apply _).trans eq_comm
    constructor
    · rintro ⟨k, hn⟩
      have hn := (hk k).mp hn
      subst hn
      fin_cases k
      · exact Or.inl rfl
      · exact Or.inr (Or.inl rfl)
      · exact Or.inr (Or.inr rfl)
    · rintro (hn | hn | hn)
      · exact ⟨0, (hk 0).mpr hn⟩
      · exact ⟨1, (hk 1).mpr hn⟩
      · exact ⟨2, (hk 2).mpr hn⟩

/-- A cell's totals with their places. -/
theorem listed (s : FVec Ideal S3x32x64x64x64 .f32) (b : Fin 32) (ch i j : Fin 64) :
    Host.argReduceFiber s (iotaInDim S3x32x64x64x64 32 0) reducesTo_S3x32x64x64x64_S32x64x64x64_d0 (ix4 b ch i j)
      = [(s (ix5 0 b ch i j), 0#32), (s (ix5 1 b ch i j), 1#32), (s (ix5 2 b ch i j), 2#32)] := by
  rw [Host.argReduceFiber, places]
  simp only [List.map_cons, List.map_nil, Equiv.symm_apply_apply]
  rfl

/-- The search for the largest total in a cell goes over the cell's totals in order. -/
theorem searched (s : FVec Ideal S3x32x64x64x64 .f32) (k : S32x64x64x64.Idx) :
    Host.argReduce (reducer_argmax_f32_i32 (F := Ideal)) s (iotaInDim S3x32x64x64x64 32 0)
        (constant (F := Ideal) S_ .f32 0xFF800000#32) (constantI S_ 32 0#32)
        reducesTo_S3x32x64x64x64_S32x64x64x64_d0 h_S_ k
      = (Host.argReduceFiber s (iotaInDim S3x32x64x64x64 32 0) reducesTo_S3x32x64x64x64_S32x64x64x64_d0 k).foldl
          (reducer_argmax_f32_i32 (F := Ideal)) (Ideal.ofBits FTy.f32 0xFF800000#32, 0#32) := by
  rw [Ideal.argReduce_eq_reduce2]
  exact Host.reduce2_eq_foldl_fiber _ _ _ _ _ _ _ k

/-- The place of the largest total in a cell whose last two totals are equal. -/
theorem pick_apply (s : FVec Ideal S3x32x64x64x64 .f32) (b : Fin 32) (ch i j : Fin 64)
    (h : s (ix5 2 b ch i j) = s (ix5 1 b ch i j)) :
    pick s (ix4 b ch i j)
      = (open Classical in if s (ix5 1 b ch i j) ≤ s (ix5 0 b ch i j) then 0#32 else 1#32) := by
  have hs := searched s (ix4 b ch i j)
  rw [listed, h, start_eq] at hs
  exact (congrFun (pick_def s) _).trans ((congrArg Prod.snd hs).trans (search _ _))

end Cert.Pool.Reference
-- ==== Proof.RefTake.lean ====
/-
  What the reference takes from a stack of three arrays at places that are all 0 or 1: in each cell the entries of the
  array at the cell's place.
-/
module

public import proofs.«01_k».proof.Proof.RefRun
public import Idealize.ShloMosaic.Lib.Pointwise

@[expose] public section

set_option maxRecDepth 16384
noncomputable section

namespace Cert.Pool.Reference

open Idealize.ShloMosaic
open Cert.ReferenceIdeal Cert.ReferenceIdeal.Gen

/-- Places that are all 0 or 1. -/
def Low (i : IVec S1x32x64x64x64x1 32) : Prop := ∀ k, i k = 0#32 ∨ i k = 1#32

/-- The place of a cell. -/
theorem wide_apply (i : IVec S32x64x64x64 32) (z : Fin 1) (b : Fin 32) (ch r s : Fin 64) (y : Fin 1) :
    wide i (ix6 z b ch r s y) = i (ix4 b ch r s) := by
  unfold wide
  pointwise

/-- No such place counts from the end. -/
theorem fromEnd_low (i : IVec S1x32x64x64x64x1 32) (h : Low i) : fromEnd i = i := by
  funext k
  unfold fromEnd fillI
  pointwise
  rcases h k with e | e <;> simp [e] <;> decide

/-- A conjunction of true conditions is true. -/
theorem all_true {α : Type} (l : List α) (f : α → BitVec 1) (h : ∀ n, f n = 1#1) :
    l.foldl (fun r n => IntOp.andi r (f n)) 1#1 = 1#1 := by
  induction l with
  | nil => rfl
  | cons a l ih => rw [List.foldl_cons, h a]; exact ih

/-- Every such place lies in the stack. -/
theorem within_low (i : IVec S1x32x64x64x64x1 32) (h : Low i) (k : S1x32x64x64x64.Idx) : within i k = 1#1 := by
  unfold within
  refine all_true _ _ fun n => ?_
  generalize S1x32x64x64x64x1.rowMajor.symm n = k
  unfold fillI
  pointwise
  rcases h k with e | e <;> simp [e] <;> decide

/-- How the stack is read. -/
abbrev dims := gather_S3x32x64x64x64x4_S1x32x64x64x64x1_S1x32x64x64x64x4_5_0_1234_1234_0_5_111114

/-- What is taken at a place, in a cell. -/
theorem taken_apply (t : FVec Ideal S3x32x64x64x64x4 .f32) (i : IVec S1x32x64x64x64x1 32) (z : Fin 1) (b : Fin 32)
    (ch r s : Fin 64) (q : Fin 4) :
    taken t i (ix6 z b ch r s q) = t (ix6 ⟨min (i (ix6 0 b ch r s 0)).toInt.toNat 2, by omega⟩ b ch r s q) := by
  unfold taken Host.gather
  congr 1
  funext a
  refine Fin.ext ?_
  show dims.start (ix6 z b ch r s q) i a + dims.batchCoord (ix6 z b ch r s q) a + dims.offCoord (ix6 z b ch r s q) a = _
  by_cases hb : a ∈ dims.operandBatchingDims
  · have hc : a ∉ dims.sKept := fun e => ((GatherDims.mem_sKept _ _).mp e).2 hb
    rw [GatherDims.start_batching _ _ _ _ hb, GatherDims.offCoord_eq_zero _ _ _ hc, Nat.zero_add, Nat.add_zero,
      GatherDims.batchCoord, dif_pos hb]
    have ha : ∀ e : Fin 6, e ∈ dims.operandBatchingDims → e = 1 ∨ e = 2 ∨ e = 3 ∨ e = 4 := by decide
    rcases ha a hb with rfl | rfl | rfl | rfl <;> rfl
  · rw [GatherDims.batchCoord_eq_zero _ _ _ hb, Nat.add_zero]
    by_cases hm : a ∈ dims.startIndexMap
    · obtain rfl : a = 0 := List.mem_singleton.mp hm
      have hc : (0 : Fin 6) ∉ dims.sKept := fun e => ((GatherDims.mem_sKept _ _).mp e).1 (List.mem_singleton.mpr rfl)
      have hi : dims.siIdx (ix6 z b ch r s q) ⟨dims.startIndexMap.idxOf 0, List.idxOf_lt_length_iff.2 hm⟩
          = ix6 0 b ch r s 0 := by
        funext c
        refine Fin.ext ?_
        fin_cases c
        · exact Nat.lt_one_iff.mp z.isLt
        all_goals rfl
      rw [GatherDims.offCoord_eq_zero _ _ _ hc, GatherDims.start, dif_pos hm, hi]
      rfl
    · have hk : a ∈ dims.sKept := (GatherDims.mem_sKept _ _).mpr ⟨hm, hb⟩
      have ha : ∀ e : Fin 6, e ∉ dims.operandBatchingDims → e ∉ dims.startIndexMap → e = 5 := by decide
      obtain rfl : a = 5 := ha a hb hm
      rw [GatherDims.start, dif_neg hm, Nat.zero_add, GatherDims.offCoord, dif_pos hk]
      rfl

/-- The entries chosen in a cell. -/
theorem chosen_apply (t : FVec Ideal S3x32x64x64x64x4 .f32) (i : IVec S1x32x64x64x64x1 32) (h : Low i) (b : Fin 32)
    (ch r s : Fin 64) (q : Fin 4) :
    chosen t i (ix5 b ch r s q) = (if i (ix6 0 b ch r s 0) = 0#32 then t (ix6 0 b ch r s q) else t (ix6 1 b ch r s q)) := by
  unfold chosen
  rw [fromEnd_low i h]
  pointwise
  rw [within_low i h, taken_apply]
  show t _ = _
  rcases h (ix6 0 b ch r s 0) with e | e
  · simp only [e]
    rfl
  · simp only [e]
    rfl

end Cert.Pool.Reference
-- ==== Proof.RefValue.lean ====
/-
  The reference's result is the images pooled: its stages, read at one cell, are the mathematics of `Cell`.
-/
module

public import proofs.«01_k».proof.Proof.RefSets
public import proofs.«01_k».proof.Proof.RefPick
public import proofs.«01_k».proof.Proof.RefTake

@[expose] public section

set_option maxRecDepth 16384
noncomputable section

namespace Cert.Pool.Reference

open Idealize.ShloMosaic
open Cert.ReferenceIdeal Cert.ReferenceIdeal.Gen

/-- The sum of `f` over the four numbers of a cell in an array that holds them along a last axis. -/
def over (f : EReal → EReal) (p : FVec Ideal S32x64x64x64x4 .f32) (b : Fin 32) (ch i j : Fin 64) : EReal :=
  sum4 f (p (ix5 b ch i j 0)) (p (ix5 b ch i j 1)) (p (ix5 b ch i j 2)) (p (ix5 b ch i j 3))

/-- The better centre for the four numbers of a cell. -/
def best (p : FVec Ideal S32x64x64x64x4 .f32) (b : Fin 32) (ch i j : Fin 64) : EReal :=
  centre (p (ix5 b ch i j 0)) (p (ix5 b ch i j 1)) (p (ix5 b ch i j 2)) (p (ix5 b ch i j 3))

variable (p : FVec Ideal S32x64x64x64x4 .f32) (b : Fin 32) (ch i j : Fin 64)

/-- The first total is that of the set centred at 1.5. -/
theorem total_near : totals (sets p) (ix5 0 b ch i j) = over (tri near) p b ch i j := by
  rw [totals_apply]
  simp only [sets, stack_first, members_apply]
  rfl

/-- The second total is that of the set centred at 3. -/
theorem total_far : totals (sets p) (ix5 1 b ch i j) = over (tri far) p b ch i j := by
  rw [totals_apply]
  simp only [sets, stack_second, members_apply]
  rfl

/-- The third total is the second once more. -/
theorem total_again : totals (sets p) (ix5 2 b ch i j) = totals (sets p) (ix5 1 b ch i j) := by
  rw [totals_apply, totals_apply]
  simp only [sets, stack_second, stack_third]

/-- The place picked in a cell: that of the set at 1.5 unless the set at 3 collects strictly more membership. -/
theorem picked : pick (totals (sets p)) (ix4 b ch i j)
    = (open Classical in if over (tri far) p b ch i j ≤ over (tri near) p b ch i j then 0#32 else 1#32) := by
  rw [pick_apply _ _ _ _ _ (total_again p b ch i j), total_near, total_far]

/-- Every picked place is 0 or 1. -/
theorem picked_low : Low (wide (pick (totals (sets p)))) := by
  classical
  intro k
  have e : wide (pick (totals (sets p))) k = pick (totals (sets p)) (ix4 (k 1) (k 2) (k 3) (k 4)) :=
    (congrArg _ (eq_ix6 k)).trans (wide_apply _ (k 0) (k 1) (k 2) (k 3) (k 4) (k 5))
  have h := picked p (k 1) (k 2) (k 3) (k 4)
  rw [e, h]
  by_cases c : over (tri far) p (k 1) (k 2) (k 3) (k 4) ≤ over (tri near) p (k 1) (k 2) (k 3) (k 4)
  · exact Or.inl (if_pos c)
  · exact Or.inr (if_neg c)

/-- The weight of a number is its membership in the set of the better centre. -/
theorem weights_apply (q : Fin 4) :
    weights p (ix5 b ch i j q) = tri (best p b ch i j) (p (ix5 b ch i j q)) := by
  classical
  unfold weights
  rw [chosen_apply _ _ (picked_low p), wide_apply, picked]
  simp only [sets, stack_first, stack_second, members_apply]
  unfold best centre
  change (if (if over (tri far) p b ch i j ≤ over (tri near) p b ch i j then 0#32 else 1#32) = 0#32
      then tri near (p (ix5 b ch i j q)) else tri far (p (ix5 b ch i j q)))
    = tri (if over (tri far) p b ch i j ≤ over (tri near) p b ch i j then near else far) (p (ix5 b ch i j q))
  by_cases h : over (tri far) p b ch i j ≤ over (tri near) p b ch i j
  · rw [if_pos h, if_pos rfl, if_pos h]
  · rw [if_neg h, if_neg (by decide), if_neg h]

/-- A weighted number. -/
theorem weighted (q : Fin 4) : mulf (weights p) p (ix5 b ch i j q)
    = tri (best p b ch i j) (p (ix5 b ch i j q)) * p (ix5 b ch i j q) :=
  (mulf_apply _ _ _).trans (congrArg (fun w : EReal => w * p (ix5 b ch i j q)) (weights_apply p b ch i j q))

/-- A number weighted and squared. -/
theorem weighted_square (q : Fin 4) : mulf (mulf (weights p) p) p (ix5 b ch i j q)
    = tri (best p b ch i j) (p (ix5 b ch i j q)) * p (ix5 b ch i j q) * p (ix5 b ch i j q) :=
  (mulf_apply _ _ _).trans (congrArg (fun w : EReal => w * p (ix5 b ch i j q)) (weighted p b ch i j q))

/-- The divisor of a cell. -/
theorem divisor : total (mulf (weights p) p) (ix4 b ch i j) = over (fun v => tri (best p b ch i j) v * v) p b ch i j := by
  rw [total_apply, weighted, weighted, weighted, weighted]
  unfold over sum4
  exact Eq.refl _

/-- The dividend of a cell. -/
theorem dividend : total (mulf (mulf (weights p) p) p) (ix4 b ch i j)
    = over (fun v => tri (best p b ch i j) v * v * v) p b ch i j := by
  rw [total_apply, weighted_square, weighted_square, weighted_square, weighted_square]
  unfold over sum4
  exact Eq.refl _

/-- The pooled number of a cell. -/
theorem pooled_apply : pooled p (ix4 b ch i j)
    = cell (p (ix5 b ch i j 0)) (p (ix5 b ch i j 1)) (p (ix5 b ch i j 2)) (p (ix5 b ch i j 3)) := by
  delta pooled
  rw [quot_apply, dividend, divisor]
  unfold over best cell
  exact Eq.refl _

/-- The reference's result is the images pooled. -/
theorem pooled_quads (x : Images) : pooled (quads x) = pool x := by
  have e : ∀ (b : Fin 32) (ch i j : Fin 64), pooled (quads x) (ix4 b ch i j) = pool x (ix4 b ch i j) := fun b ch i j => by
    rw [pooled_apply, pool_apply]
    simp only [quads_apply]
    congr 1
  funext k
  exact (congrArg _ (eq_ix4 k)).trans ((e _ _ _ _).trans (congrArg _ (eq_ix4 k)).symm)

end Cert.Pool.Reference
-- ==== Proof.lean ====
/-
  The five claims, put together. The two programs printed from the kernel end quiescent by the generated frames, and so
  does the reference by its run. Both the kernel and the reference end with the images pooled as their result, which is
  the value claim. No operation was replaced.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Array
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Pool

/-- The reference runs, keeps its argument and leaves every counter at zero. -/
theorem reference_quiescent : Cert.quiescent_ReferenceIdeal (hReferenceIdeal := Cert.ReferenceIdeal.Gen.facts) :=
  fun m ρ _ => (θ_run _ _ _).mono
    (fun r h => ⟨fun c => (h c).2, sem_eq_zero_of_no_sems (by decide) r.2⟩) (Reference.run m ρ)

/-- From equal images the kernel and the reference both end with the images pooled, and keep their argument. -/
theorem values_equal : Cert.algebraic_KernelIdeal_ReferenceIdeal (hKernelIdeal := Cert.KernelIdeal.Gen.facts)
    (hReferenceIdeal := Cert.ReferenceIdeal.Gen.facts) :=
  fun m ρ m' ρ' _ agree =>
    ⟨fun c => pool (m ((c.tc : Thread Cert.KernelIdeal.nD Cert.KernelIdeal.τ).loc Cert.KernelIdeal.main_arg0)),
      Array.run m ρ,
      (θ_run _ _ _).mono
        (fun _ h c => ⟨(h c).1.trans ((Reference.pooled_quads _).trans (congrArg pool (agree c))), (h c).2⟩)
        (Reference.run m' ρ')⟩

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_quiescent, trivial,
    values_equal⟩

end Cert.Proof

end
